-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S16384x2048 : Shape := ⟨2, ![16384, 2048]⟩
abbrev S1024x1024 : Shape := ⟨2, ![1024, 1024]⟩
abbrev S4x1024x1024 : Shape := ⟨3, ![4, 1024, 1024]⟩
abbrev S2x1024x2048 : Shape := ⟨3, ![2, 1024, 2048]⟩
abbrev S4 : Shape := ⟨1, ![4]⟩
abbrev S_ : Shape := ⟨0, ![]⟩
abbrev S2 : Shape := ⟨1, ![2]⟩
abbrev S1 : Shape := ⟨1, ![1]⟩
abbrev S1x1024x1024 : Shape := ⟨3, ![1, 1024, 1024]⟩
abbrev S1x1024x2048 : Shape := ⟨3, ![1, 1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S16384x2048, .f32⟩
  | .local _ .vmem, ⟨0, _⟩ => ⟨S1024x1024, .f32⟩
  | .local _ .vmem, ⟨1, _⟩ => ⟨S2048x1024, .bf16⟩
  | .local _ .vmem, ⟨2, _⟩ => ⟨S1024x2048, .bf16⟩
  | .local _ .vmem, ⟨3, _⟩ => ⟨S4x1024x1024, .bf16⟩
  | .local _ .vmem, ⟨4, _⟩ => ⟨S4x1024x1024, .bf16⟩
  | .local _ .vmem, ⟨5, _⟩ => ⟨S2x1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v40 : BitVec 32 := Scalar.muli v13 c1_i32_27
  let v41 : BitVec 32 := Scalar.addi c0_i32_28 v40
  v41.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30 : BitVec 32 := 1#32
  let v42 : BitVec 32 := Scalar.muli v24 c1_i32_30
  let v43 : BitVec 32 := Scalar.addi c0_i32_31 v42
  v43.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_35 : BitVec 32 := 1#32
  let v44 : BitVec 32 := Scalar.muli v24 c1_i32_35
  let v45 : BitVec 32 := Scalar.addi c0_i32_36 v44
  v45.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v53 : BitVec 32 := Scalar.muli v13 c1_i32_44
  let v54 : BitVec 32 := Scalar.addi c0_i32_45 v53
  v54.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_53 : BitVec 32 := 1#32
  let v62 : BitVec 32 := Scalar.muli v24 c1_i32_53
  let v63 : BitVec 32 := Scalar.addi c0_i32_54 v62
  v63.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_62 : BitVec 32 := 1#32
  let v71 : BitVec 32 := Scalar.muli v13 c1_i32_62
  let v72 : BitVec 32 := Scalar.addi c0_i32_63 v71
  v72.toNat
def k0_off1 (d0 : Dev nD) (c0_i32_91 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32 : BitVec 32 := 2048#32
  let v100 : BitVec 32 := Scalar.muli v2 c2048_i32
  let v101 : BitVec 32 := Scalar.addi v100 c0_i32_91
  let c0_i32_94 : BitVec 32 := 0#32
  ![v101.toNat, 0]
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v132 : BitVec 32 := Scalar.muli v24 c1_i32_132
  let v133 : BitVec 32 := Scalar.addi c0_i32_133 v132
  v133.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_159 : BitVec 32 := 1#32
  let v154 : BitVec 32 := Scalar.muli v13 c1_i32_159
  let v155 : BitVec 32 := Scalar.addi c0_i32_160 v154
  v155.toNat
def k0_off2 (d0 : Dev nD) (c0_i32_168 : BitVec 32) (c0_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v166 : BitVec 32 := Scalar.subi v2 c0_i32_168
  let c1_i32_169 : BitVec 32 := 1#32
  let v167 : BitVec 32 := Scalar.subi v166 c1_i32_169
  let c8_i32_170 : BitVec 32 := 8#32
  let c0_i32_171 : BitVec 32 := 0#32
  let v168 : BitVec 1 := Scalar.cmpi .eq c8_i32_170 c0_i32_171
  let c1_i32_172 : BitVec 32 := 1#32
  let v169 : BitVec 32 := Scalar.select v168 c1_i32_172 c8_i32_170
  let v170 : BitVec 32 := Scalar.remsi v167 v169
  let c0_i32_174 : BitVec 32 := 0#32
  let v172 : BitVec 1 := Scalar.cmpi .slt v170 c0_i32_174
  let c0_i32_175 : BitVec 32 := 0#32
  let v173 : BitVec 1 := Scalar.cmpi .slt v169 c0_i32_175
  let v174 : BitVec 1 := Scalar.xori v172 v173
  let c0_i32_173 : BitVec 32 := 0#32
  let v171 : BitVec 1 := Scalar.cmpi .ne v170 c0_i32_173
  let v175 : BitVec 1 := Scalar.andi v174 v171
  let v176 : BitVec 32 := Scalar.addi v170 v169
  let v177 : BitVec 32 := Scalar.select v175 v176 v170
  let c2048_i32_187 : BitVec 32 := 2048#32
  let v188 : BitVec 32 := Scalar.muli v177 c2048_i32_187
  let v189 : BitVec 32 := Scalar.addi v188 c0_i32_188
  let c0_i32_191 : BitVec 32 := 0#32
  ![v189.toNat, 0]
def k0_off2_at (r : Fin 7) : BitVec 32 × BitVec 32 :=
  if r.val < 3 then
    if r.val < 1 then
      (0#32, 0#32)
    else
      if r.val < 2 then
        (0#32, 1024#32)
      else
        (1#32, 0#32)
  else
    if r.val < 5 then
      if r.val < 4 then
        (1#32, 1024#32)
      else
        (2#32, 0#32)
    else
      if r.val < 6 then
        (2#32, 1024#32)
      else
        (3#32, 0#32)
def k0_off3 (d0 : Dev nD) (c0_i32_197 : BitVec 32) (c0_i32_217 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v197 : BitVec 32 := Scalar.addi v2 c0_i32_197
  let c1_i32_198 : BitVec 32 := 1#32
  let v198 : BitVec 32 := Scalar.addi v197 c1_i32_198
  let c8_i32_199 : BitVec 32 := 8#32
  let c0_i32_200 : BitVec 32 := 0#32
  let v199 : BitVec 1 := Scalar.cmpi .eq c8_i32_199 c0_i32_200
  let c1_i32_201 : BitVec 32 := 1#32
  let v200 : BitVec 32 := Scalar.select v199 c1_i32_201 c8_i32_199
  let v201 : BitVec 32 := Scalar.remsi v198 v200
  let c0_i32_203 : BitVec 32 := 0#32
  let v203 : BitVec 1 := Scalar.cmpi .slt v201 c0_i32_203
  let c0_i32_204 : BitVec 32 := 0#32
  let v204 : BitVec 1 := Scalar.cmpi .slt v200 c0_i32_204
  let v205 : BitVec 1 := Scalar.xori v203 v204
  let c0_i32_202 : BitVec 32 := 0#32
  let v202 : BitVec 1 := Scalar.cmpi .ne v201 c0_i32_202
  let v206 : BitVec 1 := Scalar.andi v205 v202
  let v207 : BitVec 32 := Scalar.addi v201 v200
  let v208 : BitVec 32 := Scalar.select v206 v207 v201
  let c2048_i32_216 : BitVec 32 := 2048#32
  let v219 : BitVec 32 := Scalar.muli v208 c2048_i32_216
  let v220 : BitVec 32 := Scalar.addi v219 c0_i32_217
  let c0_i32_220 : BitVec 32 := 0#32
  ![v220.toNat, 0]
def k0_off3_at (r : Fin 7) : BitVec 32 × BitVec 32 :=
  if r.val < 3 then
    if r.val < 1 then
      (0#32, 0#32)
    else
      if r.val < 2 then
        (0#32, 1024#32)
      else
        (1#32, 0#32)
  else
    if r.val < 5 then
      if r.val < 4 then
        (1#32, 1024#32)
      else
        (2#32, 0#32)
    else
      if r.val < 6 then
        (2#32, 1024#32)
      else
        (3#32, 1024#32)
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_243 : BitVec 32 := 1#32
  let v238 : BitVec 32 := Scalar.muli v24 c1_i32_243
  let v239 : BitVec 32 := Scalar.addi c0_i32_244 v238
  v239.toNat
def k0_dev10 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_270 : BitVec 32 := 1#32
  let v260 : BitVec 32 := Scalar.muli v13 c1_i32_270
  let v261 : BitVec 32 := Scalar.addi c0_i32_271 v260
  v261.toNat
def k0_dev11 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_354 : BitVec 32 := 1#32
  let v346 : BitVec 32 := Scalar.muli v13 c1_i32_354
  let v347 : BitVec 32 := Scalar.addi c0_i32_355 v346
  v347.toNat
def k0_dev12 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_362 : BitVec 32 := 1#32
  let v348 : BitVec 32 := Scalar.muli v24 c1_i32_362
  let v349 : BitVec 32 := Scalar.addi c0_i32_363 v348
  v349.toNat
def k0_dev13 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_388 : BitVec 32 := 1#32
  let v372 : BitVec 32 := Scalar.muli v24 c1_i32_388
  let v373 : BitVec 32 := Scalar.addi c0_i32_389 v372
  v373.toNat
def k0_dev14 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_396 : BitVec 32 := 1#32
  let v374 : BitVec 32 := Scalar.muli v13 c1_i32_396
  let v375 : BitVec 32 := Scalar.addi c0_i32_397 v374
  v375.toNat
def k0_dev15 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_479 : BitVec 32 := 1#32
  let v460 : BitVec 32 := Scalar.muli v13 c1_i32_479
  let v461 : BitVec 32 := Scalar.addi c0_i32_480 v460
  v461.toNat
def k0_dev16 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_487 : BitVec 32 := 1#32
  let v462 : BitVec 32 := Scalar.muli v24 c1_i32_487
  let v463 : BitVec 32 := Scalar.addi c0_i32_488 v462
  v463.toNat
def k0_dev17 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_513 : BitVec 32 := 1#32
  let v486 : BitVec 32 := Scalar.muli v24 c1_i32_513
  let v487 : BitVec 32 := Scalar.addi c0_i32_514 v486
  v487.toNat
def k0_dev18 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_521 : BitVec 32 := 1#32
  let v488 : BitVec 32 := Scalar.muli v13 c1_i32_521
  let v489 : BitVec 32 := Scalar.addi c0_i32_522 v488
  v489.toNat
def k0_dev19 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_604 : BitVec 32 := 1#32
  let v574 : BitVec 32 := Scalar.muli v13 c1_i32_604
  let v575 : BitVec 32 := Scalar.addi c0_i32_605 v574
  v575.toNat
def k0_dev20 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_612 : BitVec 32 := 1#32
  let v576 : BitVec 32 := Scalar.muli v24 c1_i32_612
  let v577 : BitVec 32 := Scalar.addi c0_i32_613 v576
  v577.toNat
def k0_dev21 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_734 : BitVec 32 := 1#32
  let v690 : BitVec 32 := Scalar.muli v24 c1_i32_734
  let v691 : BitVec 32 := Scalar.addi c0_i32_735 v690
  v691.toNat
def k0_dev22 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_742 : BitVec 32 := 1#32
  let v692 : BitVec 32 := Scalar.muli v13 c1_i32_742
  let v693 : BitVec 32 := Scalar.addi c0_i32_743 v692
  v693.toNat
-- ==== ReferenceIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Common.lean ====
/-
The ring, the memrefs, the semaphores, the contents and the schedule of the fused all-gather and
matrix product.

Eight devices stand in a ring. Each holds two half blocks of rows of A. In the forward direction
device c sends to its right-hand neighbour, in the backward direction to its left-hand one. What a
device sends as number s of a direction is the half block κ = s of that direction: κ / 2 devices
away against the direction, half κ % 2. What it receives as number e becomes its half block e + 2.
Every fact below is stated once, for a direction `d` (true is forward) and a number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Transfers
public import Idealize.ShloMosaic.Lib.MemrefSat
public import Idealize.ShloMosaic.Lib.Ring
public import Idealize.ShloMosaic.Lib.Pipeline.TalkSites

@[expose] public section

noncomputable section

/-! The ring, the kernel's views, its semaphores, and the schedule of every cell that devices share: which rounds it has,
  who pays them, how much, and what each payment hands over, with its contents. Direction `true` goes to the right,
  `false` to the left; half block `e` of a direction lands in slot `e % 4`. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

/-- A slot to be handed back: its reader, its direction, the write that waits for it. -/
abbrev Key : Type := Dev nD × Bool × ℕ
abbrev UB : Type := URounds (GSem nD τ sig) ℕ
abbrev US : Type := Release.USlots Key
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × (US × Counters))).trans embR
abbrev ES : Emb US (MT nD τ sig ℕ (Elt F) ℕ UU ℕ) :=
  ((Emb.inl : Emb US (US × Counters)).trans (Emb.inr : Emb (US × Counters) (UB × (US × Counters)))).trans embR
abbrev EC : UEmb Counters (MT nD τ sig ℕ (Elt F) ℕ UU ℕ) := countersEmb

instance ER_lands : (ER (F := F)).LandsIn (upEmb : UEmb _ 𝕄) := by unfold ER; infer_instance
instance ES_lands : (ES (F := F)).LandsIn (upEmb : UEmb _ 𝕄) := by unfold ES; infer_instance

variable (m : (ℓ : Loc nD τ sig) → Buf (Elt F) ℓ) (ρ : Dev nD → PrngReg)

/-! ## The ring -/

set_option backward.proofsInPublic true in
/-- The device k places to the right. -/
def shr (k : ℕ) (c : Dev nD) : Dev nD := ⟨(c.val + k) % 8, Nat.mod_lt _ (by decide)⟩

/-- The device k places ahead in direction `d`. -/
def ahead (d : Bool) (k : ℕ) (c : Dev nD) : Dev nD := match d with | true => shr k c | false => shr (8 - k) c
/-- The device a block of direction `d` comes from, k places back. -/
abbrev back (d : Bool) (k : ℕ) (c : Dev nD) : Dev nD := ahead (!d) k c
/-- Whom `c` sends to, -/
abbrev tgt (d : Bool) (c : Dev nD) : Dev nD := ahead d 1 c
/-- and from whom it receives. -/
abbrev fro (d : Bool) (c : Dev nD) : Dev nD := back d 1 c

theorem tgt_fro (d : Bool) (c : Dev nD) : tgt d (fro d c) = c := by revert d c; decide
theorem fro_tgt (d : Bool) (c : Dev nD) : fro d (tgt d c) = c := by revert d c; decide
theorem fro_not (d : Bool) (c : Dev nD) : fro (!d) c = tgt d c := by revert d c; decide
theorem back_fro (d : Bool) (k : ℕ) (hk : k < 5) (c : Dev nD) : back d k (fro d c) = back d (k + 1) c := by
  have h : ∀ k : Fin 5, ∀ (d : Bool) (c : Dev nD), back d k.val (fro d c) = back d (k.val + 1) c := by decide
  exact h ⟨k, hk⟩ d c

/-- One turn of the ring. -/
def ring (d : Bool) : Dev nD ≃ Dev nD := ⟨tgt d, fro d, fro_tgt d, tgt_fro d⟩

/-! ## The memrefs -/

abbrev aM : Memref sig .tc .hbm S2048x1024 .f32 := Memref.whole main_arg0
abbrev bM : Memref sig .tc .hbm S1024x2048 .f32 := Memref.whole main_arg1
abbrev oM : Memref sig .tc .hbm S16384x2048 .f32 := Memref.whole main_v1
abbrev stM : Memref sig .tc .vmem S1024x1024 .f32 := Memref.whole cc0_scratch0
abbrev a16M : Memref sig .tc .vmem S2048x1024 .bf16 := Memref.whole cc0_scratch1
abbrev b16M : Memref sig .tc .vmem S1024x2048 .bf16 := Memref.whole cc0_scratch2
/-- The four slots of a direction. -/
abbrev bufM (d : Bool) : Memref sig .tc .vmem S4x1024x1024 .bf16 :=
  match d with | true => Memref.whole cc0_scratch3 | false => Memref.whole cc0_scratch4
abbrev cbufM : Memref sig .tc .vmem S2x1024x2048 .f32 := Memref.whole cc0_scratch5

/-- The slot of number `e`. -/
abbrev sl (e : ℕ) : Fin 4 := ⟨e % 4, Nat.mod_lt _ (by decide)⟩
abbrev hf (κ : ℕ) : Fin 2 := ⟨κ % 2, Nat.mod_lt _ (by decide)⟩

/-- Half a block of rows, half the columns, one slot, one accumulator, one block of the result. -/
abbrev rowR (h : Fin 2) : Rect S2048x1024 := Rect.unit (s := S2048x1024) ![1024 * h.val, 0] S1024x1024.size (by revert h; decide)
abbrev colR (h : Fin 2) : Rect S1024x2048 := Rect.unit (s := S1024x2048) ![0, 1024 * h.val] S1024x1024.size (by revert h; decide)
abbrev slotR (j : Fin 4) : Rect S4x1024x1024 := Rect.unit (s := S4x1024x1024) ![j.val, 0, 0] S1x1024x1024.size (by revert j; decide)
abbrev accR (k : Fin 2) : Rect S2x1024x2048 := Rect.unit (s := S2x1024x2048) ![k.val, 0, 0] S1x1024x2048.size (by revert k; decide)
abbrev outR (b : Fin 16) : Rect S16384x2048 := Rect.unit (s := S16384x2048) ![1024 * b.val, 0] S1024x2048.size (by revert b; decide)

abbrev aInM (h : Fin 2) : Memref sig .tc .hbm S1024x1024 .f32 := aM.slice (rowR h) (fun _ => rfl)
abbrev bInM (h : Fin 2) : Memref sig .tc .hbm S1024x1024 .f32 := bM.slice (colR h) (fun _ => rfl)
abbrev a16H (h : Fin 2) : Memref sig .tc .vmem S1024x1024 .bf16 := a16M.slice (rowR h) (fun _ => rfl)
abbrev b16H (h : Fin 2) : Memref sig .tc .vmem S1024x1024 .bf16 := b16M.slice (colR h) (fun _ => rfl)
/-- A slot as it is sliced, and with its axis of size one dropped. -/
abbrev slotU (d : Bool) (j : Fin 4) : Memref sig .tc .vmem S1x1024x1024 .bf16 := (bufM d).slice (slotR j) (fun _ => rfl)
abbrev slotM (d : Bool) (j : Fin 4) : Memref sig .tc .vmem S1024x1024 .bf16 :=
  (slotU d j).squeeze S1024x1024 squeezes_S1x1024x1024_S1024x1024
abbrev accU (k : Fin 2) : Memref sig .tc .vmem S1x1024x2048 .f32 := cbufM.slice (accR k) (fun _ => rfl)
abbrev accM (k : Fin 2) : Memref sig .tc .vmem S1024x2048 .f32 := (accU k).squeeze S1024x2048 squeezes_S1x1024x2048_S1024x2048
abbrev outM (b : Fin 16) : Memref sig .tc .hbm S1024x2048 .f32 := oM.slice (outR b) (fun _ => rfl)

/-- Where the half block κ of a direction lies: the first two are the device's own. -/
def srcM (d : Bool) (κ : ℕ) : Memref sig .tc .vmem S1024x1024 .bf16 :=
  if κ < 2 then a16H (hf κ) else slotM d (sl (κ + 2))

/-! ## The semaphores and the cells -/

def sndS (d : Bool) (e : ℕ) : DmaSem sig := ⟨(bif d then 0 else 8) + e % 4, by cases d <;> (show _ < 19; simp; omega)⟩
def rcvS (d : Bool) (e : ℕ) : DmaSem sig := ⟨(bif d then 4 else 12) + e % 4, by cases d <;> (show _ < 19; simp; omega)⟩
def crS (d : Bool) : Sem sig := match d with | true => (0 : Fin 3) | false => (1 : Fin 3)
def barS : Sem sig := (2 : Fin 3)
def cpyS (k : Fin 2) : DmaSem sig := ⟨16 + k.val, by show _ < 19; omega⟩
def stgS : DmaSem sig := ⟨18, by decide⟩

abbrev sC (d : Bool) (e : ℕ) (c : Dev nD) : GSem nD τ sig := ((c : Thread nD τ), .dma (sndS d e))
abbrev rC (d : Bool) (e : ℕ) (c : Dev nD) : GSem nD τ sig := ((c : Thread nD τ), .dma (rcvS d e))
abbrev crC (d : Bool) (c : Dev nD) : GSem nD τ sig := ((c : Thread nD τ), .reg (crS d))
abbrev barC (c : Dev nD) : GSem nD τ sig := ((c : Thread nD τ), .reg barS)

/-- The credit of one half block. -/
abbrev NB : ℕ := (slotM true 0).view.dmaCredit
theorem NB_pos : 0 < NB := View.dmaCredit_pos _ (by decide)

/-! ## The contents -/

/-- A device's arrays, -/
abbrev aVal (c : Dev nD) : S2048x1024.Idx → Elt F .f32 := m ((c : Thread nD τ).loc main_arg0)
abbrev bVal (c : Dev nD) : S1024x2048.Idx → Elt F .f32 := m ((c : Thread nD τ).loc main_arg1)
/-- their halves as they are loaded (true is A, false is B), -/
def inpV (d : Bool) (h : Fin 2) (c : Dev nD) : S1024x1024.Idx → Elt F .f32 :=
  match d with | true => fun j => aVal m c ((rowR h).emb j) | false => fun j => bVal m c ((colR h).emb j)
/-- the half block κ of direction `d` at `c`, rounded, -/
def Xs (d : Bool) (κ : ℕ) (c : Dev nD) : S1024x1024.Idx → Elt F .bf16 := k0_pay1 (inpV m true (hf κ) (back d (κ / 2) c))
/-- the rounded B, -/
def bmV (c : Dev nD) : S1024x2048.Idx → Elt F .bf16 := truncf .bf16 (bVal m c) bitsLt_bf16_f32
/-- the product of a half block and B. -/
def mm (a : S1024x1024.Idx → Elt F .bf16) (b : S1024x2048.Idx → Elt F .bf16) : S1024x2048.Idx → Elt F .f32 :=
  matmul dot_S1024x1024_S1024x2048_S1024x2048_1_0_0_1_n_n none a b (constant S1024x2048 .f32 0x00000000#32)

theorem Xs_fro (d : Bool) (e : ℕ) (he : e < 10) (c : Dev nD) : Xs m d e (fro d c) = Xs m d (e + 2) c := by
  unfold Xs
  have h1 : hf (e + 2) = hf e := Fin.ext (by simp [hf])
  have h2 : (e + 2) / 2 = e / 2 + 1 := by omega
  rw [h1, h2, back_fro d (e / 2) (by omega)]

/-! ## The schedule -/

/-- The numbers of a direction, and those among them that wait for a credit. -/
def EV (d : Bool) : Finset ℕ := match d with | true => {0, 1, 2, 3, 4, 5, 6} | false => {0, 1, 2, 3, 4, 5, 7}
def WV (d : Bool) : Finset ℕ := match d with | true => {4, 5, 6} | false => {4, 5, 7}

/-- The share a send lends, and the share kept for computing. -/
def srcQ (d : Bool) (κ : ℕ) : PosShare TreeShare :=
  if κ < 2 then (match d with | true => fullShare.left | false => fullShare.right.left) else fullShare.left
def srcR (κ : ℕ) : PosShare TreeShare := if κ < 2 then fullShare.right.right else fullShare.right

abbrev ownsT (c : Dev nD) {sp : Space} {sh : Shape} {e : EltTy} (mr : Memref sig .tc sp sh e) (q : PosShare TreeShare) (X : sh.Idx → Elt F e) : sProp 𝕄 :=
  owns (Ix := ℕ) (Name := ℕ) (U := UU) (Lvl := ℕ) (c : Thread nD τ) mr q X
/-- The elements under a memref, whatever they hold. -/
def anyT (c : Dev nD) {sp : Space} {sh : Shape} {e : EltTy} (mr : Memref sig .tc sp sh e) : sProp 𝕄 :=
  iprop(∃ X, ownsT (F := F) c mr fullShare X)

omit [FloatOps F] in
instance owns_storable (c : Dev nD) {sp : Space} {sh : Shape} {e : EltTy} (mr : Memref sig .tc sp sh e) (q) (X : sh.Idx → Elt F e) :
    BI.Storable (upEmb : UEmb _ 𝕄) (ownsT c mr q X) := by unfold ownsT owns; infer_instance
omit [FloatOps F] in
instance any_storable (c : Dev nD) {sp : Space} {sh : Shape} {e : EltTy} (mr : Memref sig .tc sp sh e) :
    BI.Storable (upEmb : UEmb _ 𝕄) (anyT (F := F) c mr) := by unfold anyT; infer_instance

/-- Slot `w` was handed back by its reader `c`, whose receive cell of it stands at its second round. -/
def fact (d : Bool) (w : ℕ) (c : Dev nD) : sProp 𝕄 :=
  iprop(Release.released (ES (F := F)) ((c, d, w) : Key) 1 ∗ reached (ER (F := F)) (rC d w c) 1)
/-- What a credit tells: that slot and every slot before it were handed back. -/
def facts (d : Bool) (w : ℕ) (c : Dev nD) : sProp 𝕄 := bigSep ((WV d).filter (· ≤ w)) fun v => fact (F := F) d v c

omit [FloatOps F] in
instance fact_persistent (d) (w : ℕ) (c : Dev nD) : BI.Persistent (fact (F := F) d w c) := by unfold fact; infer_instance
omit [FloatOps F] in
instance facts_persistent (d) (w : ℕ) (c : Dev nD) : BI.Persistent (facts (F := F) d w c) := by unfold facts; infer_instance
omit [FloatOps F] in
instance fact_storable (d) (w : ℕ) (c : Dev nD) : BI.Storable (upEmb : UEmb _ 𝕄) (fact (F := F) d w c) := by
  unfold fact Release.released; infer_instance
omit [FloatOps F] in
instance facts_storable (d) (w : ℕ) (c : Dev nD) : BI.Storable (upEmb : UEmb _ 𝕄) (facts (F := F) d w c) := by unfold facts; infer_instance

/-- The opening signal hands over the neighbour's four slots of a direction; -/
def barPay (d : Bool) (c : Dev nD) : sProp 𝕄 := bigSep (Finset.range 4) fun e => anyT (F := F) (tgt d c) (slotM d (sl e))
/-- a send, done reading, hands back the lent share of its source; -/
def sndPay (d : Bool) (e : ℕ) (c : Dev nD) : sProp 𝕄 := ownsT c (srcM d e) (srcQ d e) (Xs m d e c)
/-- a landing hands over its slot, holding the half block. -/
def rcvPay (d : Bool) (e : ℕ) (c : Dev nD) : sProp 𝕄 := ownsT c (slotM d (sl e)) fullShare (Xs m d e (fro d c))

omit [FloatOps F] in
instance barPay_storable (d) (c : Dev nD) : BI.Storable (upEmb : UEmb _ 𝕄) (barPay (F := F) d c) := by unfold barPay; infer_instance
instance sndPay_storable (d) (e : ℕ) (c : Dev nD) : BI.Storable (upEmb : UEmb _ 𝕄) (sndPay m d e c) := by unfold sndPay; infer_instance
instance rcvPay_storable (d) (e : ℕ) (c : Dev nD) : BI.Storable (upEmb : UEmb _ 𝕄) (rcvPay m d e c) := by unfold rcvPay; infer_instance

/-- The duties of a cell's round: one for a half block of that number; two neighbours' for the barrier; the credits. -/
def schedDuties (s : SemLoc sig) (r : ℕ) : Finset ℕ :=
  match s with
  | .dma n => if n.val < 16 ∧ 4 * r + n.val % 4 ∈ EV (decide (n.val < 8)) then {0} else ∅
  | .reg n => if r = 0 then (if n.val = 2 then {0, 1} else WV (decide (n.val = 0))) else ∅

def schedPay (s : SemLoc sig) (r w : ℕ) (c : Dev nD) : sProp 𝕄 :=
  match s with
  | .dma n => if n.val % 8 < 4 then sndPay m (decide (n.val < 8)) (4 * r + n.val % 4) c
      else rcvPay m (decide (n.val < 8)) (4 * r + n.val % 4) c
  | .reg n => if n.val = 2 then barPay (decide (w = 0)) c else facts (decide (n.val = 0)) w (tgt (decide (n.val = 0)) c)

def schedAmt (s : SemLoc sig) : ℕ := match s with | .dma _ => NB | .reg _ => 1

def Rd : Rounds.Schedule (GSem nD τ sig) ℕ 𝕄 where
  duties g r := if g.1.2 = .tc then schedDuties g.2 r else ∅
  unitless _ := False
  amount g _ _ := schedAmt g.2
  payload g r w := schedPay m g.2 r w g.1.1
  amount_pos g _ _ _ := by
    rcases g with ⟨t, s⟩; cases s
    · exact Nat.one_pos
    · exact NB_pos

instance Rd_storable (g : GSem nD τ sig) (r w : ℕ) : BI.Storable (upEmb : UEmb _ 𝕄) ((Rd m).payload g r w) := by
  show BI.Storable upEmb (schedPay m g.2 r w g.1.1)
  unfold schedPay
  (repeat' split) <;> infer_instance

section Sched
variable (d : Bool) (e : ℕ) (c : Dev nD)

theorem num_eq : 4 * (e / 4) + e % 4 = e := by omega

theorem duties_s (r : ℕ) : (Rd m).duties (sC d e c) r = if 4 * r + e % 4 ∈ EV d then {0} else ∅ := by
  show schedDuties (.dma (sndS d e)) r = _
  have h4 : e % 4 < 4 := Nat.mod_lt _ (by decide)
  unfold schedDuties sndS
  cases d
  · have h1 : decide (8 + e % 4 < 8) = false := decide_eq_false (by omega)
    have h2 : (8 + e % 4) % 4 = e % 4 := by omega
    simp only [cond_false, h1, h2, show 8 + e % 4 < 16 by omega, true_and]
  · have h1 : decide (0 + e % 4 < 8) = true := decide_eq_true (by omega)
    have h2 : (0 + e % 4) % 4 = e % 4 := by omega
    simp only [cond_true, h1, h2, show 0 + e % 4 < 16 by omega, true_and]
theorem duties_r (r : ℕ) : (Rd m).duties (rC d e c) r = if 4 * r + e % 4 ∈ EV d then {0} else ∅ := by
  show schedDuties (.dma (rcvS d e)) r = _
  have h4 : e % 4 < 4 := Nat.mod_lt _ (by decide)
  unfold schedDuties rcvS
  cases d
  · have h1 : decide (12 + e % 4 < 8) = false := decide_eq_false (by omega)
    have h2 : (12 + e % 4) % 4 = e % 4 := by omega
    simp only [cond_false, h1, h2, show 12 + e % 4 < 16 by omega, true_and]
  · have h1 : decide (4 + e % 4 < 8) = true := decide_eq_true (by omega)
    have h2 : (4 + e % 4) % 4 = e % 4 := by omega
    simp only [cond_true, h1, h2, show 4 + e % 4 < 16 by omega, true_and]
theorem duties_s_of (he : e ∈ EV d) : (Rd m).duties (sC d e c) (e / 4) = {0} := by rw [duties_s, num_eq, if_pos he]
theorem duties_r_of (he : e ∈ EV d) : (Rd m).duties (rC d e c) (e / 4) = {0} := by rw [duties_r, num_eq, if_pos he]
theorem duties_cr : (Rd m).duties (crC d c) 0 = WV d := by cases d <;> rfl
theorem duties_bar : (Rd m).duties (barC c) 0 = {0, 1} := rfl
theorem duties_reg (s : Sem sig) (r : ℕ) (hr : 1 ≤ r) : (Rd m).duties ((c : Thread nD τ), .reg s) r = ∅ := by
  show schedDuties (.reg s) r = ∅
  unfold schedDuties; exact if_neg (by omega)

theorem amount_s (r w : ℕ) : (Rd m).amount (sC d e c) r w = NB := rfl
theorem amount_r (r w : ℕ) : (Rd m).amount (rC d e c) r w = NB := rfl
theorem expect_s_of (he : e ∈ EV d) : (Rd m).expect (sC d e c) (e / 4) = NB := by
  unfold Schedule.expect Schedule.amountOf; rw [duties_s_of m d e c he, Finset.sum_singleton]; rfl
theorem expect_r_of (he : e ∈ EV d) : (Rd m).expect (rC d e c) (e / 4) = NB := by
  unfold Schedule.expect Schedule.amountOf; rw [duties_r_of m d e c he, Finset.sum_singleton]; rfl
theorem expect_cr : (Rd m).expect (crC d c) 0 = 3 := by
  unfold Schedule.expect Schedule.amountOf; rw [duties_cr]; cases d <;> rfl
theorem expect_bar : (Rd m).expect (barC c) 0 = 2 := by
  unfold Schedule.expect Schedule.amountOf; rw [duties_bar]; rfl

theorem payload_s (w : ℕ) : (Rd m).payload (sC d e c) (e / 4) w = sndPay m d e c := by
  show schedPay m (.dma (sndS d e)) (e / 4) w c = _
  have h4 : e % 4 < 4 := Nat.mod_lt _ (by decide)
  have hn := num_eq e
  unfold schedPay sndS
  cases d
  · have h1 : decide (8 + e % 4 < 8) = false := decide_eq_false (by omega)
    have h2 : (8 + e % 4) % 4 = e % 4 := by omega
    simp only [cond_false, h1, h2, show (8 + e % 4) % 8 < 4 by omega, if_true, hn]
  · have h1 : decide (0 + e % 4 < 8) = true := decide_eq_true (by omega)
    have h2 : (0 + e % 4) % 4 = e % 4 := by omega
    simp only [cond_true, h1, h2, show (0 + e % 4) % 8 < 4 by omega, if_true, hn]
theorem payload_r (w : ℕ) : (Rd m).payload (rC d e c) (e / 4) w = rcvPay m d e c := by
  show schedPay m (.dma (rcvS d e)) (e / 4) w c = _
  have h4 : e % 4 < 4 := Nat.mod_lt _ (by decide)
  have hn := num_eq e
  unfold schedPay rcvS
  cases d
  · have h1 : decide (12 + e % 4 < 8) = false := decide_eq_false (by omega)
    have h2 : (12 + e % 4) % 4 = e % 4 := by omega
    simp only [cond_false, h1, h2, show ¬ (12 + e % 4) % 8 < 4 by omega, if_false, hn]
  · have h1 : decide (4 + e % 4 < 8) = true := decide_eq_true (by omega)
    have h2 : (4 + e % 4) % 4 = e % 4 := by omega
    simp only [cond_true, h1, h2, show ¬ (4 + e % 4) % 8 < 4 by omega, if_false, hn]
theorem payload_cr (w : ℕ) : (Rd m).payload (crC d c) 0 w = facts d w (tgt d c) := by cases d <;> rfl
theorem payload_bar : (Rd m).payload (barC c) 0 (bif d then 0 else 1) = barPay d c := by cases d <;> rfl

end Sched

/-! ## What a device owes, in the order it pays, and the levels -/

/-- A payment: its kind (0 the opening signal, 1 a half block, 2 a credit), its direction, its number. -/
abbrev Act : Type := ℕ × Bool × ℕ

/-- A device's payments, in the order it makes them. -/
def dueA : List Act :=
  [(0, true, 0), (0, false, 0), (1, true, 0), (1, false, 0), (1, true, 1), (1, false, 1),
   (1, true, 2), (1, false, 2), (1, true, 3), (1, false, 3),
   (2, true, 4), (1, true, 4), (2, false, 4), (1, false, 4),
   (2, true, 5), (1, true, 5), (2, false, 5), (1, false, 5),
   (2, true, 6), (1, true, 6), (2, false, 7), (1, false, 7)]

/-- The levels of a landing and of a credit: each above those of what must come before it. -/
def rIx (d : Bool) (e : ℕ) : ℕ := 10 + 4 * e + (bif d then 0 else 2)
def cIx (d : Bool) (w : ℕ) : ℕ := 11 + 4 * (w - 2) + (bif d then 0 else 2)
def ixA : Act → ℕ
  | (0, _, _) => 1
  | (1, d, e) => rIx d e
  | (_, d, e) => cIx d e
/-- The semaphore paid, whose (a direction's target, or its source), and how much. -/
def semA : Act → SemLoc sig
  | (0, _, _) => .reg barS
  | (1, d, e) => .dma (rcvS d e)
  | (_, d, _) => .reg (crS d)
def devA : Act → Dev nD → Dev nD
  | (1, d, _) => tgt d
  | (_, d, _) => fro d
def amtA : Act → ℕ
  | (1, _, _) => NB
  | _ => 1
abbrev payOf (c : Dev nD) (a : Act) : TalkSites.Pay nD τ sig := ((((devA a c : Dev nD) : Thread nD τ), semA a), ixA a, amtA a)
/-- What device `c` owes after its first `n` payments. -/
def owed (n : ℕ) (c : Dev nD) : CellTallies nD τ sig ℕ := TalkSites.tallyL ((dueA.drop n).map (payOf c))

theorem owed_step {n : ℕ} {a : Act} (h : dueA.drop n = a :: dueA.drop (n + 1)) (c : Dev nD) :
    owed n c = owed (n + 1) c + tallyAt (((devA a c : Dev nD) : Thread nD τ), semA a) (ixA a) (amtA a) := by
  unfold owed; rw [h, List.map_cons, TalkSites.tallyL, add_comm]
theorem owed_end (c : Dev nD) : owed 22 c = 0 := rfl

def L (g : GSem nD τ sig) : Finset ℕ := if g.1.2 = .tc then Finset.range 64 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 64 := if_pos rfl

/-- Below everything still owed, a device may wait. -/
theorem may_wait (c : Dev nD) (sm : SemLoc sig) (ι n : ℕ) (hι : ι < 64)
    (h : ∀ a ∈ dueA.drop n, ι < ixA a ∧ ixA a < 64) : (levAts L lv : sProp 𝕄) ⊢ MayWait (c : Thread nD τ) sm ι (owed n c) := by
  have key (g : GSem nD τ sig) (i : ℕ) (hg : 0 < owed n c g i) : ∃ a ∈ dueA.drop n, g = (payOf c a).1 ∧ i = ixA a := by
    obtain ⟨x, hx, h1, h2⟩ := TalkSites.tallyL_pos hg
    obtain ⟨a, ha, rfl⟩ := List.mem_map.mp hx
    exact ⟨a, ha, h1, h2⟩
  refine MayOwe.of_cut (L := L) (lev := lv) ι
    (fun p hp => by rw [Finset.mem_singleton.mp hp, L_tc]; exact Finset.mem_range.mpr hι) (fun g i hg => ?_)
    (fun p hp => by rw [Finset.mem_singleton.mp hp]; exact le_rfl) (fun g i hg => ?_)
  · obtain ⟨a, ha, rfl, rfl⟩ := key g i hg
    exact (L_tc _ _).symm ▸ Finset.mem_range.mpr (h a ha).2
  · obtain ⟨a, ha, rfl, rfl⟩ := key g i hg
    exact (h a ha).1

end Cert.RingMM
-- ==== Proof.State.lean ====
/-
What a device holds between two operations: a list of tokens, each the name of a resource. One
lemma moves a step that consumes some tokens and produces others to the whole list.
-/
module

public import proofs.«01_k».proof.Proof.Common

@[expose] public section

noncomputable section

/-! What a device holds between two steps of the body: a list of tokens, each one a resource; and how one step changes the list. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Sums of resources -/

theorem bs_elim {M I : Type} [URA M] [DecidableEq I] {s : Finset I} {i : I} (h : i ∈ s) {Φ : I → sProp M} : (bigSep s Φ : sProp M) ⊢ Φ i := bigSep_elim h
theorem bs_insert {M I : Type} [URA M] [DecidableEq I] {s : Finset I} {i : I} (h : i ∉ s) {Φ : I → sProp M} :
    (bigSep (insert i s) Φ : sProp M) = iprop(Φ i ∗ bigSep s Φ) := bigSep_insert h
theorem bs_erase {M I : Type} [URA M] [DecidableEq I] {s : Finset I} {i : I} (h : i ∈ s) {Φ : I → sProp M} :
    (bigSep s Φ : sProp M) = iprop(Φ i ∗ bigSep (s.erase i) Φ) := bigSep_erase h
theorem bs_one {M I : Type} [URA M] {i : I} {Φ : I → sProp M} : (bigSep {i} Φ : sProp M) = Φ i := bigSep_singleton

/-! ## The tokens -/

/-- The resources a device holds, by direction and number. -/
inductive Tok where
  /-- the position on a receive cell, the credit for its wait -/
  | rp (d : Bool) (e : ℕ) | rc (d : Bool) (e : ℕ)
  /-- the position on a send cell, the credit for its wait, the duties of a send -/
  | sp (d : Bool) (e : ℕ) | sk (d : Bool) (e : ℕ) | st (d : Bool) (e : ℕ)
  /-- the neighbour's slot a send writes -/
  | dd (d : Bool) (e : ℕ)
  /-- the lent and the kept share of a half block -/
  | lp (d : Bool) (κ : ℕ) | rr (d : Bool) (κ : ℕ)
  /-- what a credit wait needs, the position on the credit cell, the same at its end -/
  | wc (d : Bool) (w : ℕ) | cn (d : Bool) (i : ℕ) | cd (d : Bool)
  /-- what a credit's payment needs, the slots handed back so far -/
  | ct (d : Bool) (w : ℕ) | fa (d : Bool) (w : ℕ)
  /-- the opening signal's duty, the opening wait before and after, the own slots -/
  | bt (d : Bool) | bp | bd | sl (d : Bool)
  /-- the halves of an array, the staging buffer, its semaphore, a load in flight, a loaded half -/
  | inp (d : Bool) (h : ℕ) | stg | ssv | sfl (d : Bool) (h : ℕ) | sld (d : Bool) (h : ℕ)
  /-- a half of a rounded array before and after, the rounded B -/
  | hst (d : Bool) (h : ℕ) | hld (d : Bool) (h : ℕ) | bb
  /-- an accumulator, its semaphore, a filled accumulator, a copy in flight -/
  | acc (k : ℕ) | asv (k : ℕ) | awr (d : Bool) (κ : ℕ) | fl (d : Bool) (κ : ℕ)
  /-- a block of the result before and after -/
  | ob (d : Bool) (κ : ℕ) | od (d : Bool) (κ : ℕ)
  deriving DecidableEq

/-- The halves of the arrays (true is A), and of their rounded copies. -/
abbrev inM (d : Bool) (h : Fin 2) : Memref sig .tc .hbm S1024x1024 .f32 := match d with | true => aInM h | false => bInM h
abbrev roM (d : Bool) (h : Fin 2) : Memref sig .tc .vmem S1024x1024 .bf16 := match d with | true => a16H h | false => b16H h

/-- The accumulator that serves a half block. -/
abbrev accK (d : Bool) (κ : ℕ) : Fin 2 := if κ < 2 then hf κ else (match d with | true => 0 | false => 1)
/-- The block of the result a half block makes. -/
def rowB (d : Bool) (κ : ℕ) (c : Dev nD) : Fin 16 :=
  ⟨2 * (back d (κ / 2) c).val + κ % 2, by have h : (back d (κ / 2) c).val < 8 := (back d (κ / 2) c).isLt; omega⟩

/-- An accumulator's contents, as it is stored. -/
def accV (X : S1024x2048.Idx → Elt F .f32) : S1x1024x2048.Idx → Elt F .f32 := shapeCast S1x1024x2048 X shapeCasts_S1024x2048_S1x1024x2048

abbrev NS : ℕ := (stM : Memref sig .tc .vmem S1024x1024 .f32).view.dmaCredit
abbrev NO : ℕ := (outM 0).view.dmaCredit

def cnRes (d : Bool) (i : ℕ) (c : Dev nD) : sProp 𝕄 :=
  iprop(∃ T : Finset ℕ, ⌜T ⊆ WV d ∧ i ≤ T.card⌝ ∗ atPos (ER (F := F)) (crC d c) 0 T i
    ∗ bigSep T fun w => facts (F := F) d w (tgt d c))

def Rt (c : Dev nD) : Tok → sProp 𝕄
  | .rp d e => iprop(atPos ER (rC d e c) (e / 4) ∅ 0 ∗ reached ER (rC d e c) (e / 4))
  | .rc d e => cred (tallyAt (rC d e c) (rIx d e) NB)
  | .sp d e => iprop(atPos ER (sC d e c) (e / 4) ∅ 0 ∗ reached ER (sC d e c) (e / 4))
  | .sk d e => cred (tallyAt (sC d e c) 0 NB)
  | .st d e => iprop(dutyTok ER (sC d e c) (e / 4) 0 ∗ dutyTok ER (rC d e (tgt d c)) (e / 4) 0)
  | .dd d e => iprop(anyT (tgt d c) (slotM d (sl e)) ∗ reached ER (rC d e (tgt d c)) (e / 4))
  | .lp d κ => ownsT c (srcM d κ) (srcQ d κ) (Xs m d κ c)
  | .rr d κ => ownsT c (srcM d κ) (srcR κ) (Xs m d κ c)
  | .wc d w => iprop(Release.writeTok ES ((tgt d c, d, w) : Key) 1 ∗ cred (tallyAt (crC d c) (cIx d w) 1))
  | .cn d i => cnRes d i c
  | .cd d => atPos ER (crC d c) 1 ∅ 0
  | .ct d w => iprop(dutyTok ER (crC d (fro d c)) 0 w ∗ Release.readerAt ES ((c, d, w) : Key) 0)
  | .fa d w => facts d w c
  | .bt d => dutyTok ER (barC (fro d c)) 0 (bif d then 0 else 1)
  | .bp => iprop(atPos ER (barC c) 0 ∅ 0 ∗ cred (tallyAt (barC c) 1 2))
  | .bd => atPos ER (barC c) 1 ∅ 0
  | .sl d => bigSep (Finset.range 4) fun e => anyT (F := F) c (slotM d (sl e))
  | .inp d h => ownsT c (inM d (hf h)) fullShare (inpV m d (hf h) c)
  | .stg => anyT c stM
  | .ssv => semVal ((c : Thread nD τ), .dma stgS) 0
  | .sfl d h => Transfers.Flight EC (c : Thread nD τ) (.dma stgS) 0 NS
      iprop(ownsT c stM fullShare (inpV m d (hf h) c) ∗ ownsT c (inM d (hf h)) fullShare (inpV m d (hf h) c))
  | .sld d h => ownsT c stM fullShare (inpV m d (hf h) c)
  | .hst d h => anyT c (roM d (hf h))
  | .hld d h => ownsT c (roM d (hf h)) fullShare (k0_pay1 (inpV m d (hf h) c))
  | .bb => ownsT c b16M fullShare (bmV m c)
  | .acc k => anyT c (accU (hf k))
  | .asv k => semVal ((c : Thread nD τ), .dma (cpyS (hf k))) 0
  | .awr d κ => ownsT c (accU (accK d κ)) fullShare (accV (mm (Xs m d κ c) (bmV m c)))
  | .fl d κ => Transfers.Flight EC (c : Thread nD τ) (.dma (cpyS (accK d κ))) 0 NO
      iprop(ownsT c (outM (rowB d κ c)) fullShare (mm (Xs m d κ c) (bmV m c)) ∗ anyT c (accU (accK d κ)))
  | .ob d κ => anyT c (outM (rowB d κ c))
  | .od d κ => ownsT c (outM (rowB d κ c)) fullShare (mm (Xs m d κ c) (bmV m c))

/-- The resources of a list of tokens. -/
def toks (c : Dev nD) : List Tok → sProp 𝕄
  | [] => iprop(emp)
  | a :: l => iprop(Rt m c a ∗ toks c l)

/-- Are the first tokens among the second? What remains of the second without the first. -/
def okT : List Tok → List Tok → Bool
  | [], _ => true
  | a :: t, l => l.contains a && okT t (l.erase a)
def restT : List Tok → List Tok → List Tok
  | [], l => l
  | a :: t, l => restT t (l.erase a)

theorem toks_erase (c : Dev nD) (a : Tok) (l : List Tok) (h : l.contains a = true) : toks m c l ⊢ iprop(Rt m c a ∗ toks m c (l.erase a)) := by
  induction l with
  | nil => simp at h
  | cons b l ih =>
    by_cases hb : b = a
    · subst hb; rw [List.erase_cons_head]; exact .rfl
    · rw [List.erase_cons_tail (by simpa using hb)]
      have h' : l.contains a = true := by
        simp only [List.contains_iff_mem, List.mem_cons] at h ⊢
        exact h.resolve_left fun e => hb e.symm
      show iprop(Rt m c b ∗ toks m c l) ⊢ iprop(Rt m c a ∗ Rt m c b ∗ toks m c (l.erase a))
      iintro ⟨Hb, Hl⟩
      ihave H := (ih h') $$ Hl
      icases H with ⟨Ha, Hl⟩
      isplitl [Ha]; · iexact Ha
      isplitl [Hb] <;> iassumption

theorem toks_take (c : Dev nD) (t l : List Tok) (h : okT t l = true) : toks m c l ⊢ iprop(toks m c t ∗ toks m c (restT t l)) := by
  induction t generalizing l with
  | nil =>
    show toks m c l ⊢ iprop(emp ∗ toks m c l)
    iintro H; isplitr; · iempintro
    iexact H
  | cons a t ih =>
    obtain ⟨h1, h2⟩ := Bool.and_eq_true_iff.mp h
    show toks m c l ⊢ iprop((Rt m c a ∗ toks m c t) ∗ toks m c (restT t (l.erase a)))
    iintro H
    ihave H := (toks_erase m c a l h1) $$ H
    icases H with ⟨Ha, H⟩
    ihave H := (ih _ h2) $$ H
    icases H with ⟨Ht, H⟩
    isplitl [Ha Ht]
    · isplitl [Ha] <;> iassumption
    iexact H

theorem toks_append (c : Dev nD) (t l : List Tok) : iprop(toks m c t ∗ toks m c l) ⊢ toks m c (t ++ l) := by
  induction t with
  | nil =>
    show iprop(emp ∗ toks m c l) ⊢ toks m c l
    iintro ⟨-, H⟩; iexact H
  | cons a t ih =>
    show iprop((Rt m c a ∗ toks m c t) ∗ toks m c l) ⊢ iprop(Rt m c a ∗ toks m c (t ++ l))
    iintro ⟨⟨Ha, Ht⟩, Hl⟩
    isplitl [Ha]; · iexact Ha
    iapply ih
    isplitl [Ht] <;> iassumption

/-! ## What every device knows -/

def cInv (g : GSem nD τ sig) : sProp 𝕄 := iprop(∃ κ, cellInv (ER (F := F)) (Rd m) κ g)
/-- The slot a key names. -/
def keySlot (k : Key) : sProp 𝕄 := anyT (F := F) k.1 (slotM k.2.1 (sl k.2.2))
def sInv (k : Key) : sProp 𝕄 := iprop(∃ ι, Release.slotInv (ES (F := F)) ι k (keySlot (F := F) k))

omit [FloatOps F] in
instance keySlot_storable (k : Key) : BI.Storable (upEmb : UEmb _ 𝕄) (keySlot (F := F) k) := by unfold keySlot; infer_instance
instance cInv_persistent (g : GSem nD τ sig) : BI.Persistent (cInv m g) := by unfold cInv; infer_instance
omit [FloatOps F] in
instance sInv_persistent (k : Key) : BI.Persistent (sInv (F := F) k) := by unfold sInv; infer_instance

/-- The cells of a device: its send and receive cells, its credit cells, its barrier cell. -/
def osem (i : Fin 19) : SemLoc sig :=
  if h : i.val < 16 then .dma ⟨i.val, by show i.val < 19; omega⟩ else .reg ⟨i.val - 16, by show i.val - 16 < 3; omega⟩
abbrev cellAt (x : Dev nD × Fin 19) : GSem nD τ sig := ((x.1 : Thread nD τ), osem x.2)
def keysAll : Finset Key := Finset.univ ×ˢ (Finset.univ ×ˢ Finset.range 8)

def Ctx : sProp 𝕄 :=
  iprop(levAts L lv ∗ (bigSep Finset.univ fun x => cInv m (cellAt x)) ∗ (bigSep Finset.univ fun x => reached (ER (F := F)) (cellAt x) 0)
    ∗ bigSep keysAll fun k => sInv (F := F) k)

instance Ctx_persistent : BI.Persistent (Ctx m) := by unfold Ctx; infer_instance

theorem cell_s (d : Bool) (e : ℕ) (c : Dev nD) : ∃ i, sC d e c = cellAt (c, i) := by
  have h4 : e % 4 < 4 := Nat.mod_lt _ (by decide)
  refine ⟨⟨(sndS d e).val, (sndS d e).isLt⟩, ?_⟩
  have h : (sndS d e).val < 16 := by unfold sndS; cases d <;> simp <;> omega
  unfold cellAt osem; rw [dif_pos h]
theorem cell_r (d : Bool) (e : ℕ) (c : Dev nD) : ∃ i, rC d e c = cellAt (c, i) := by
  have h4 : e % 4 < 4 := Nat.mod_lt _ (by decide)
  refine ⟨⟨(rcvS d e).val, (rcvS d e).isLt⟩, ?_⟩
  have h : (rcvS d e).val < 16 := by unfold rcvS; cases d <;> simp <;> omega
  unfold cellAt osem; rw [dif_pos h]
theorem cell_cr (d : Bool) (c : Dev nD) : ∃ i, crC d c = cellAt (c, i) := by
  cases d
  · exact ⟨17, rfl⟩
  · exact ⟨16, rfl⟩
theorem cell_bar (c : Dev nD) : ∃ i, barC c = cellAt (c, i) := ⟨18, rfl⟩

theorem Ctx_lev : Ctx m ⊢ (levAts L lv : sProp 𝕄) := by unfold Ctx; iintro ⟨H, -⟩; iexact H
theorem Ctx_inv {g : GSem nD τ sig} {c : Dev nD} (h : ∃ i, g = cellAt (c, i)) : Ctx m ⊢ cInv m g := by
  obtain ⟨i, rfl⟩ := h
  unfold Ctx; iintro ⟨-, H, -⟩; iapply (bs_elim (Finset.mem_univ (c, i)) (Φ := fun x => cInv m (cellAt x))); iexact H
theorem Ctx_reached {g : GSem nD τ sig} {c : Dev nD} (h : ∃ i, g = cellAt (c, i)) : Ctx m ⊢ reached (ER (F := F)) g 0 := by
  obtain ⟨i, rfl⟩ := h
  unfold Ctx; iintro ⟨-, -, H, -⟩
  iapply (bs_elim (Finset.mem_univ (c, i)) (Φ := fun x => reached (ER (F := F)) (cellAt x) 0)); iexact H
theorem Ctx_slot (c : Dev nD) (d : Bool) (w : ℕ) (hw : w < 8) : Ctx m ⊢ sInv (F := F) (c, d, w) := by
  unfold Ctx; iintro ⟨-, -, -, H⟩
  iapply (bs_elim (i := ((c, d, w) : Key)) (Φ := fun k => sInv (F := F) k)
    (Finset.mem_product.mpr ⟨Finset.mem_univ _, Finset.mem_product.mpr ⟨Finset.mem_univ _, Finset.mem_range.mpr hw⟩⟩)); iexact H

/-! ## The state and one step -/

def Owe (c : Dev nD) (n : ℕ) : sProp 𝕄 := iprop(∃ W, owes (c : Thread nD τ) (owed n c) W)

/-- A device before the next operation: what all know, what it owes, what it holds. -/
def St (c : Dev nD) (n : ℕ) (l : List Tok) : sProp 𝕄 := iprop(Ctx m ∗ Owe (F := F) c n ∗ toks m c l)

theorem St.step {c : Dev nD} {n n' : ℕ} (take give : List Tok) {l : List Tok} {P Pk : sProp 𝕄} (hok : okT take l = true)
    (hop : iprop(Ctx m ∗ Owe c n ∗ toks m c take) ⊢ iprop(((Owe c n' ∗ toks m c give) -∗ Pk) -∗ P))
    (hk : St m c n' (give ++ restT take l) ⊢ Pk) : St m c n l ⊢ P := by
  unfold St
  iintro ⟨#HC, HO, HT⟩
  ihave H := (toks_take m c take l hok) $$ HT
  icases H with ⟨Ht, Hl⟩
  iapply hop $$ [HO Ht]
  · isplitr; · iexact HC
    isplitl [HO] <;> iassumption
  iintro ⟨HO, Hg⟩
  iapply hk
  unfold St
  isplitr; · iexact HC
  isplitl [HO]; · iexact HO
  iapply (toks_append m c give (restT take l))
  isplitl [Hg] <;> iassumption

/-- A step that only changes what the tokens say. -/
theorem St.conv {c : Dev nD} {n : ℕ} (take give : List Tok) {l : List Tok} {P : sProp 𝕄} (hok : okT take l = true)
    (hop : toks m c take ⊢ toks m c give) (hk : St m c n (give ++ restT take l) ⊢ P) : St m c n l ⊢ P := by
  refine St.step m take give (n' := n) hok ?_ hk
  iintro ⟨-, HO, Ht⟩ Hk
  iapply Hk
  isplitl [HO]; · iexact HO
  iapply hop; iexact Ht

end Cert.RingMM
-- ==== Proof.OpsRing.lean ====
/-
The steps that touch other devices: a send, the waits for it, the credits and the opening barrier.
-/
module

public import proofs.«01_k».proof.Proof.State

@[expose] public section

noncomputable section

/-! The steps that talk to the neighbours, each proved once for any direction, number and device: the barrier, a remote send, its two waits, a credit's signal and its wait. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none
/-- A program run on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem sndS_add (d : Bool) (e : ℕ) : sndS d (e + 4) = sndS d e := Fin.ext (by simp [sndS])
theorem rcvS_add (d : Bool) (e : ℕ) : rcvS d (e + 4) = rcvS d e := Fin.ext (by simp [rcvS])
theorem sC_add (d : Bool) (e : ℕ) (c : Dev nD) : sC d (e + 4) c = sC d e c := by unfold sC; rw [sndS_add]
theorem rC_add (d : Bool) (e : ℕ) (c : Dev nD) : rC d (e + 4) c = rC d e c := by unfold rC; rw [rcvS_add]
theorem div_add (e : ℕ) : (e + 4) / 4 = e / 4 + 1 := by omega
theorem srcM_recv (d : Bool) (e : ℕ) : srcM d (e + 2) = slotM d (sl e) := by
  unfold srcM; rw [if_neg (by omega)]
  have h : sl (e + 2 + 2) = sl e := Fin.ext (by show (e + 2 + 2) % 4 = e % 4; omega)
  rw [h]
theorem srcQ_recv (d : Bool) (e : ℕ) : srcQ d (e + 2) = fullShare.left := by unfold srcQ; rw [if_neg (by omega)]
theorem srcR_recv (e : ℕ) : srcR (e + 2) = fullShare.right := by unfold srcR; rw [if_neg (by omega)]

section
variable (c : Dev nD) {α : Type}

/-- A send: number `s` of direction `d`, into the neighbour's slot. -/
theorem op_send (d : Bool) (s : ℕ) {n : ℕ} {l : List Tok} {dv : Dev nD} {src dst : Memref sig .tc .vmem S1024x1024 .bf16} {q1 q2 : DmaSem sig}
    (hdv : dv = tgt d c) (hs : src = srcM d s) (hd : dst = slotM d (sl s)) (h1 : q1 = sndS d s) (h2 : q2 = rcvS d s)
    (hdue : dueA.drop n = (1, d, s) :: dueA.drop (n + 1)) (hE : s ∈ EV d)
    (hok : okT [.st d s, .sp d s, .dd d s, .lp d s] l = true)
    {hsc : dst.view.ref.isScScratch = false} {hsrc : src.view.WordExact} {hdst : dst.view.WordExact}
    {hsem : DmaTarget.Typed .vmem (.dma q2) (.remote (Dev.tc dv : Thread nD τ) dst (.dma q1) hsc)}
    {Q : α → sProp 𝕄} {k : PUnit → Prog (TpuEff nD τ sig (Elt F) Λ₀ .tc) α}
    (hk : St m c (n + 1) ([.sk d s, .sp d s] ++ restT [.st d s, .sp d s, .dd d s, .lp d s] l) ⊢ WP c (k ⟨⟩) Q) :
    St m c n l ⊢ WP c (.op (.enqueueDma src (.remote (Dev.tc dv : Thread nD τ) dst (.dma q1) hsc) (.dma q2) hsrc hdst hsem) k) Q := by
  subst hdv hs hd h1 h2
  refine St.step m _ _ hok ?_ hk
  simp only [toks, Rt]
  iintro ⟨#HC, HO, ⟨Ht1, Ht2⟩, ⟨Hat, #Hr1⟩, ⟨Hdd, #Hr2⟩, Hsrc, -⟩ Hk
  ihave HI1 := (Ctx_inv m (cell_s d s c)) $$ HC
  ihave HI2 := (Ctx_inv m (cell_r d s (tgt d c))) $$ HC
  unfold cInv
  icases HI1 with ⟨%κ1, #HI1⟩
  icases HI2 with ⟨%κ2, #HI2⟩
  unfold anyT Owe
  icases Hdd with ⟨%X, Hdd⟩
  unfold ownsT owns
  icases Hdd with ⟨%fd, -, Hdd⟩
  icases Hsrc with ⟨%fs, %hfs, Hsrc⟩
  icases HO with ⟨%W, HO⟩
  iapply (Rounds.wp_send_pointsTo 𝒱₀ ER (Rd m) (c : Thread nD τ) none (κ₁ := κ1) (κ₂ := κ2) (r₁ := s / 4) (r₂ := s / 4) (d₁ := 0) (d₂ := 0)
    (fd := fd) (by rw [duties_s_of m d s c hE]; exact Finset.mem_singleton_self _)
    (by refine Eq.mpr (congrArg (0 ∈ ·) (duties_r_of m d s (tgt d c) hE)) ?_; exact Finset.mem_singleton_self _)
    (rIx d s) 0 NB (by cases d <;> rfl) rfl rfl (owed (n + 1) c) (owed_step hdue c) (W := W)
    (by
      rw [payload_s]; unfold sndPay ownsT owns
      iintro H; iexists fs; isplitr; · ipureintro; exact hfs
      iexact H)
    (by
      rw [show (Rd m).payload ((devA (1, d, s) c : Thread nD τ), semA (1, d, s)) (s / 4) 0 = rcvPay m d s (tgt d c) from payload_r m d s (tgt d c) 0]
      unfold rcvPay ownsT owns
      rw [fro_tgt]
      iintro H; iexists (slotM d (sl s)).view.write (Elt F) fd ((srcM d s).view.read (Elt F) fs) Finset.univ; isplitr
      · ipureintro; exact (View.read_write_univ _ _).trans hfs
      iexact H)) $$ [HO Ht1 Ht2 Hdd Hsrc]
  · isplitr; · iexact HI1
    isplitr; · iexact HI2
    isplitl [Hsrc]; · iexact Hsrc
    isplitl [Hdd]; · iexact Hdd
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  isplitl [Hcr]; · iexact Hcr
  isplitl [Hat]
  · isplitl [Hat]; · iexact Hat
    iexact Hr1
  iempintro

/-- The wait for the half block received as number `e`. -/
theorem op_rwait (d : Bool) (e : ℕ) {n : ℕ} {l : List Tok} {sp sp' : Space} {s s' : Shape} {t t' : EltTy} {q : DmaSem sig}
    {src : Memref sig .tc sp s t} {dst : Memref sig .tc sp' s' t'} (hq : q = rcvS d e) (hN : dst.view.dmaCredit = NB)
    (hE : e ∈ EV d) (hlt : e < 10) (hlev : ∀ a ∈ dueA.drop n, rIx d e < ixA a ∧ ixA a < 64) (hix : rIx d e < 64)
    (hok : okT [.rp d e, .rc d e] l = true)
    {hsrc : src.view.WordExact} {hdst : dst.view.WordExact} {Q : α → sProp 𝕄} {k : PUnit → Prog (TpuEff nD τ sig (Elt F) Λ₀ .tc) α}
    (hk : St m c n ([.rp d (e + 4), .lp d (e + 2), .rr d (e + 2)] ++ restT [.rp d e, .rc d e] l) ⊢ WP c (k ⟨⟩) Q) :
    St m c n l ⊢ WP c (.op (.waitDma2 q src dst hsrc hdst) k) Q := by
  subst hq
  refine St.step m _ _ hok ?_ hk
  simp only [toks, Rt, srcM_recv, srcQ_recv, srcR_recv, rC_add, div_add]
  iintro ⟨#HC, HO, ⟨Hat, -⟩, Hcr, -⟩ Hk
  ihave HI := (Ctx_inv m (cell_r d e c)) $$ HC
  unfold cInv Owe
  icases HI with ⟨%κ, #HI⟩
  icases HO with ⟨%W, HO⟩
  iapply (Rounds.wp_wait_rest_token 𝒱₀ ER (Rd m) (c : Thread nD τ) none (κ := κ)
      (fun K => (wpE_waitDma2_eq 𝒱₀ (c : Thread nD τ) none Set.univ K).trans (by rw [hN])) (Set.mem_univ _) (rIx d e) (O := owed n c) (W := W) (R := e / 4) (m := 0) (T := ∅)
      (by rw [Nat.zero_add, expect_r_of m d e c hE])) $$ [Hcr HO Hat]
  · isplitr; · iexact HI
    isplitl [Hcr]; · iexact Hcr
    isplitl [HO]; · iexact HO
    isplitr
    · iapply (may_wait c (.dma (rcvS d e)) (rIx d e) n hix hlev); iapply (Ctx_lev m); iexact HC
    iexact Hat
  iintro ⟨HO, Hat, #Hr, Hpay⟩
  ihave Hp := (Entails.of_eq (show (bigSep ((Rd m).duties (rC d e c) (e / 4) \ ∅) fun w => (Rd m).payload (rC d e c) (e / 4) w)
    = ownsT c (slotM d (sl e)) fullShare (Xs m d (e + 2) c) from by
      rw [Finset.sdiff_empty, duties_r_of m d e c hE, bigSep_singleton, payload_r]; unfold rcvPay; rw [Xs_fro m d e hlt])) $$ Hpay
  ihave Hp := (owns_halves _ _ _ _).1 $$ Hp
  icases Hp with ⟨Hl, Hrr⟩
  iapply Hk
  isplitl [HO]; · iexists _; iexact HO
  isplitl [Hat]
  · isplitl [Hat]; · iexact Hat
    iexact Hr
  isplitl [Hl]; · iexact Hl
  isplitl [Hrr]; · iexact Hrr
  iempintro

/-- The wait for the own send of number `e`: the lent share is back. -/
theorem op_swait (d : Bool) (e : ℕ) {n : ℕ} {l : List Tok} {sp sp' : Space} {s s' : Shape} {t t' : EltTy} {q : DmaSem sig}
    {src : Memref sig .tc sp s t} {dst : Memref sig .tc sp' s' t'} (hq : q = sndS d e) (hN : dst.view.dmaCredit = NB)
    (hE : e ∈ EV d) (hlev : ∀ a ∈ dueA.drop n, 0 < ixA a ∧ ixA a < 64)
    (hok : okT [.sp d e, .sk d e] l = true)
    {hsrc : src.view.WordExact} {hdst : dst.view.WordExact} {Q : α → sProp 𝕄} {k : PUnit → Prog (TpuEff nD τ sig (Elt F) Λ₀ .tc) α}
    (hk : St m c n ([.sp d (e + 4), .lp d e] ++ restT [.sp d e, .sk d e] l) ⊢ WP c (k ⟨⟩) Q) :
    St m c n l ⊢ WP c (.op (.waitDma2 q src dst hsrc hdst) k) Q := by
  subst hq
  refine St.step m _ _ hok ?_ hk
  simp only [toks, Rt, sC_add, div_add]
  iintro ⟨#HC, HO, ⟨Hat, -⟩, Hcr, -⟩ Hk
  ihave HI := (Ctx_inv m (cell_s d e c)) $$ HC
  unfold cInv Owe
  icases HI with ⟨%κ, #HI⟩
  icases HO with ⟨%W, HO⟩
  iapply (Rounds.wp_wait_rest_token 𝒱₀ ER (Rd m) (c : Thread nD τ) none (κ := κ)
      (fun K => (wpE_waitDma2_eq 𝒱₀ (c : Thread nD τ) none Set.univ K).trans (by rw [hN])) (Set.mem_univ _) 0 (O := owed n c) (W := W) (R := e / 4) (m := 0) (T := ∅)
      (by rw [Nat.zero_add, expect_s_of m d e c hE])) $$ [Hcr HO Hat]
  · isplitr; · iexact HI
    isplitl [Hcr]; · iexact Hcr
    isplitl [HO]; · iexact HO
    isplitr
    · iapply (may_wait c (.dma (sndS d e)) 0 n (by decide) hlev); iapply (Ctx_lev m); iexact HC
    iexact Hat
  iintro ⟨HO, Hat, #Hr, Hpay⟩
  ihave Hp := (Entails.of_eq (show (bigSep ((Rd m).duties (sC d e c) (e / 4) \ ∅) fun w => (Rd m).payload (sC d e c) (e / 4) w)
    = ownsT c (srcM d e) (srcQ d e) (Xs m d e c) from by
      rw [Finset.sdiff_empty, duties_s_of m d e c hE, bigSep_singleton, payload_s]; rfl)) $$ Hpay
  iapply Hk
  isplitl [HO]; · iexists _; iexact HO
  isplitl [Hat]
  · isplitl [Hat]; · iexact Hat
    iexact Hr
  isplitl [Hp]; · iexact Hp
  iempintro

omit [FloatOps F] in
/-- No two owners of a slot. -/
theorem any_any_false (d : Bool) (j : Fin 4) : iprop(anyT (F := F) c (slotM d j) ∗ anyT (F := F) c (slotM d j)) ⊢ (False : sProp 𝕄) := by
  unfold anyT ownsT owns
  iintro ⟨⟨%X, %f, -, H1⟩, ⟨%Y, %g, -, H2⟩⟩
  have hi := View.emb_mem_set (slotM d j).view (fun a => match a with | ⟨0, _⟩ => (⟨0, by decide⟩ : Fin 1024) | ⟨1, _⟩ => (⟨0, by decide⟩ : Fin 1024))
  iapply (pointsTo_overlap_false (ℓ := (slotM d j).view.loc (c : Thread nD τ)) (I := (slotM d j).view.set) (J := (slotM d j).view.set)
    (q := fullShare) (f := f) (g := g) hi hi)
  isplitl [H1]; · iexact H1
  iexact H2

omit [FloatOps F] in
theorem facts_insert (d : Bool) (w w0 : ℕ) (h : (WV d).filter (· ≤ w) = insert w ((WV d).filter (· ≤ w0))) (hn : w ∉ (WV d).filter (· ≤ w0)) :
    iprop(fact (F := F) d w c ∗ facts (F := F) d w0 c) ⊢ facts (F := F) d w c := by
  unfold facts; rw [h, bs_insert hn]

/-- A credit given: the slot of number `w` is handed back to who writes it, and says so. -/
theorem op_credit (d : Bool) (w w0 : ℕ) {n : ℕ} {l : List Tok} {dv : Dev nD} {q : Sem sig} {a : ℤ}
    (hdv : dv = fro d c) (hq : q = crS d) (ha : a = ((1 : ℕ) : ℤ))
    (hdue : dueA.drop n = (2, d, w) :: dueA.drop (n + 1)) (hW : w ∈ WV d) (hw : w < 8) (hw4 : w / 4 = 1)
    (hins : (WV d).filter (· ≤ w) = insert w ((WV d).filter (· ≤ w0))) (hnin : w ∉ (WV d).filter (· ≤ w0))
    (hok : okT [.ct d w, .rp d w, .lp d (w - 4 + 2), .rr d (w - 4 + 2), .fa d w0] l = true)
    {Q : α → sProp 𝕄} {k : PUnit → Prog (TpuEff nD τ sig (Elt F) Λ₀ .tc) α}
    (hk : St m c (n + 1) ([.rp d w, .fa d w] ++ restT [.ct d w, .rp d w, .lp d (w - 4 + 2), .rr d (w - 4 + 2), .fa d w0] l) ⊢ WP c (k ⟨⟩) Q) :
    St m c n l ⊢ WP c (.op (.semSignal (Dev.tc dv : Thread nD τ) q a) k) Q := by
  subst hdv hq ha
  refine St.step m _ _ hok ?_ hk
  have hsl : sl (w - 4) = sl w := Fin.ext (by show (w - 4) % 4 = w % 4; omega)
  simp only [toks, Rt, srcM_recv, srcQ_recv, srcR_recv, hw4]
  iintro ⟨#HC, HO, ⟨Htok, Hrd⟩, ⟨Hat, #Hr1⟩, Hl, Hrr, #Hfa, -⟩ Hk
  ihave HI := (Ctx_inv m (cell_cr d (fro d c))) $$ HC
  ihave HS := (Ctx_slot m c d w hw) $$ HC
  ihave #Hr0 := (Ctx_reached m (cell_cr d (fro d c))) $$ HC
  unfold cInv sInv Owe
  icases HI with ⟨%κ, #HI⟩
  icases HS with ⟨%ι, #HS⟩
  icases HO with ⟨%W, HO⟩
  ihave Hslot := (owns_halves _ _ _ _).2 $$ [Hl Hrr]
  · isplitl [Hl]; · iexact Hl
    iexact Hrr
  imod (Release.slot_release ES (ι := ι) (k := ((c, d, w) : Key)) (S := keySlot (F := F) (c, d, w)) (Set.mem_univ ι) (any_any_false c d (sl w)) 0) $$ [Hrd Hslot] with ⟨-, #Hrel⟩
  · isplitr; · iexact HS
    isplitl [Hrd]; · iexact Hrd
    unfold keySlot anyT
    rw [hsl]
    iexists _; iexact Hslot
  iapply (Rounds.wp_signal 𝒱₀ ER (Rd m) (c : Thread nD τ) none (dst := ((fro d c : Dev nD) : Thread nD τ)) (κ := κ) (r := 0)
      (d := w) (by rw [duties_cr]; exact hW) rfl (cIx d w) (owed (n + 1) c) (owed_step hdue c)) $$ [HO Htok]
  · isplitr; · iexact HI
    isplitl [HO]; · iexact HO
    isplitl [Htok]; · iexact Htok
    isplitr
    · rw [payload_cr, tgt_fro]
      iapply (facts_insert c d w w0 hins hnin)
      isplitr
      · unfold fact; isplitr; · iexact Hrel
        iexact Hr1
      iexact Hfa
    iexact Hr0
  iintro HO
  iapply Hk
  isplitl [HO]; · iexists W; iexact HO
  isplitl [Hat]
  · isplitl [Hat]; · iexact Hat
    iexact Hr1
  isplitl []
  · iapply (facts_insert c d w w0 hins hnin)
    isplitr
    · unfold fact; isplitr; · iexact Hrel
      iexact Hr1
    iexact Hfa
  iempintro

omit [FloatOps F] in
/-- Who knows enough of the slots handed back, and holds the write of the next, has it. -/
theorem take_slot (d : Bool) (w : ℕ) (hW : w ∈ WV d) (hw : w < 8) (T : Finset ℕ) (hT : ∃ s ∈ T, w ≤ s) :
    iprop(sInv (F := F) (tgt d c, d, w) ∗ (bigSep T fun v => facts (F := F) d v (tgt d c)) ∗ Release.writeTok ES ((tgt d c, d, w) : Key) 1)
      ⊢ iprop(|={Set.univ}=> (anyT (F := F) (tgt d c) (slotM d (sl w)) ∗ reached (ER (F := F)) (rC d w (tgt d c)) 1)) := by
  obtain ⟨s, hs, hws⟩ := hT
  unfold sInv
  iintro ⟨⟨%ι, HS⟩, HT, Htok⟩
  ihave Hf := (bs_elim hs (Φ := fun v => facts (F := F) d v (tgt d c))) $$ HT
  unfold facts
  ihave Hf := (bs_elim (i := w) (Finset.mem_filter.mpr ⟨hW, hws⟩) (Φ := fun v => fact (F := F) d v (tgt d c))) $$ Hf
  unfold fact
  icases Hf with ⟨Hrel, Hr⟩
  imod (Release.slot_take ES (ι := ι) (k := ((tgt d c, d, w) : Key)) (S := keySlot (F := F) (tgt d c, d, w)) (Set.mem_univ ι) 1) $$ [HS Hrel Htok] with Hslot
  · isplitl [HS]; · iexact HS
    isplitl [Hrel]; · iexact Hrel
    iexact Htok
  imodintro
  isplitl [Hslot]; · iapply (show keySlot (F := F) (tgt d c, d, w) ⊢ anyT (F := F) (tgt d c) (slotM d (sl w)) from .rfl); iexact Hslot
  iexact Hr

/-- A credit waited for, not the last: the slot of number `w` may be written. -/
theorem op_cwait (d : Bool) (w i : ℕ) {n : ℕ} {l : List Tok} {q : Sem sig} {a : ℤ} (hq : q = crS d) (ha : a = ((1 : ℕ) : ℤ))
    (hW : w ∈ WV d) (hw : w < 8) (hw4 : w / 4 = 1)
    (hpg : ∀ T ∈ (WV d).powerset, i + 1 ≤ T.card → ∃ s ∈ T, w ≤ s)
    (hlev : ∀ a ∈ dueA.drop n, cIx d w < ixA a ∧ ixA a < 64) (hix : cIx d w < 64)
    (hok : okT [.cn d i, .wc d w] l = true)
    {Q : α → sProp 𝕄} {k : PUnit → Prog (TpuEff nD τ sig (Elt F) Λ₀ .tc) α}
    (hk : St m c n ([.cn d (i + 1), .dd d w] ++ restT [.cn d i, .wc d w] l) ⊢ WP c (k ⟨⟩) Q) :
    St m c n l ⊢ WP c (.op (.semWait q a) k) Q := by
  subst hq ha
  refine St.step m _ _ hok ?_ hk
  simp only [toks, Rt, hw4]
  unfold cnRes
  iintro ⟨#HC, HO, ⟨%T, %hT, Hat, #HT⟩, ⟨Htok, Hcr⟩, -⟩ Hk
  ihave HI := (Ctx_inv m (cell_cr d c)) $$ HC
  ihave #HS := (Ctx_slot m (tgt d c) d w hw) $$ HC
  unfold cInv Owe
  icases HI with ⟨%κ, #HI⟩
  icases HO with ⟨%W, HO⟩
  iapply (Rounds.wp_wait 𝒱₀ ER (Rd m) (c : Thread nD τ) none (κ := κ)
      (wpE_semWait_eq 𝒱₀ (c : Thread nD τ) none Set.univ) (Set.mem_univ _) (cr := Finsupp.single (cIx d w) 1) (O := owed n c) (W := W) {(SemLoc.reg (crS d), cIx d w)} (R := 0) (m := i) (T := T)
      (by rw [Util.total_single]) (image_single_subset _ _ _)) $$ [Hcr HO Hat]
  · isplitr; · iexact HI
    isplitl [Hcr]; · iexact Hcr
    isplitl [HO]; · iexact HO
    isplitr
    · iapply (may_wait c (.reg (crS d)) (cIx d w) n hix hlev); iapply (Ctx_lev m); iexact HC
    iexact Hat
  iintro %S ⟨%hS, HO, Hat, Hpay⟩
  rw [duties_cr, expect_cr] at hS
  have hcard : i + 1 ≤ S.card := by
    have h1 := Finset.card_sdiff_add_card_eq_card hS.2.1
    have h2 : (WV d).card = 3 := by cases d <;> rfl
    omega
  ihave #HS2 := (Entails.of_eq (show (bigSep (S \ T) fun v => (Rd m).payload (crC d c) 0 v) = bigSep (S \ T) fun v => facts (F := F) d v (tgt d c) from
    bigSep_congr fun v _ => payload_cr m d c v)) $$ Hpay
  have hjoin : iprop((bigSep T fun v => facts (F := F) d v (tgt d c)) ∗ bigSep (S \ T) fun v => facts (F := F) d v (tgt d c))
      ⊢ bigSep S fun v => facts (F := F) d v (tgt d c) := by
    refine Entails.of_eq ?_
    rw [bigSep_sdiff_split hS.1]; rfl
  ihave #HSS := hjoin $$ []
  · isplitr; · iexact HT
    iexact HS2
  imod (take_slot c d w hW hw S (hpg S (Finset.mem_powerset.mpr hS.2.1) hcard)) $$ [Htok] with ⟨Hslot, Hr⟩
  · isplitr; · iexact HS
    isplitr; · iexact HSS
    iexact Htok
  iapply Hk
  isplitl [HO]; · iexists _; iexact HO
  isplitl [Hat]
  · iexists S
    isplitr; · ipureintro; exact ⟨hS.2.1, hcard⟩
    isplitl [Hat]; · iexact Hat
    iexact HSS
  isplitl [Hslot Hr]
  · isplitl [Hslot]; · iexact Hslot
    iexact Hr
  iempintro

/-- The last credit of a direction. -/
theorem op_cwait_last (d : Bool) (w : ℕ) {n : ℕ} {l : List Tok} {q : Sem sig} {a : ℤ} (hq : q = crS d) (ha : a = ((1 : ℕ) : ℤ))
    (hW : w ∈ WV d) (hw : w < 8) (hw4 : w / 4 = 1)
    (hlev : ∀ a ∈ dueA.drop n, cIx d w < ixA a ∧ ixA a < 64) (hix : cIx d w < 64)
    (hok : okT [.cn d 2, .wc d w] l = true)
    {Q : α → sProp 𝕄} {k : PUnit → Prog (TpuEff nD τ sig (Elt F) Λ₀ .tc) α}
    (hk : St m c n ([.cd d, .dd d w] ++ restT [.cn d 2, .wc d w] l) ⊢ WP c (k ⟨⟩) Q) :
    St m c n l ⊢ WP c (.op (.semWait q a) k) Q := by
  subst hq ha
  refine St.step m _ _ hok ?_ hk
  simp only [toks, Rt, hw4]
  unfold cnRes
  iintro ⟨#HC, HO, ⟨%T, %hT, Hat, #HT⟩, ⟨Htok, Hcr⟩, -⟩ Hk
  ihave HI := (Ctx_inv m (cell_cr d c)) $$ HC
  ihave #HS := (Ctx_slot m (tgt d c) d w hw) $$ HC
  unfold cInv Owe
  icases HI with ⟨%κ, #HI⟩
  icases HO with ⟨%W, HO⟩
  iapply (Rounds.wp_wait_rest_token 𝒱₀ ER (Rd m) (c : Thread nD τ) none (κ := κ)
      (wpE_semWait_eq 𝒱₀ (c : Thread nD τ) none Set.univ) (Set.mem_univ _) (cIx d w) (O := owed n c) (W := W) (R := 0) (m := 2) (T := T)
      (by rw [expect_cr])) $$ [Hcr HO Hat]
  · isplitr; · iexact HI
    isplitl [Hcr]; · iexact Hcr
    isplitl [HO]; · iexact HO
    isplitr
    · iapply (may_wait c (.reg (crS d)) (cIx d w) n hix hlev); iapply (Ctx_lev m); iexact HC
    iexact Hat
  iintro ⟨HO, Hat, -, Hpay⟩
  ihave #HS2 := (Entails.of_eq (show (bigSep ((Rd m).duties (crC d c) 0 \ T) fun v => (Rd m).payload (crC d c) 0 v)
      = bigSep (WV d \ T) fun v => facts (F := F) d v (tgt d c) from by
    rw [duties_cr]; exact bigSep_congr fun v _ => payload_cr m d c v)) $$ Hpay
  have hjoin : iprop((bigSep T fun v => facts (F := F) d v (tgt d c)) ∗ bigSep (WV d \ T) fun v => facts (F := F) d v (tgt d c))
      ⊢ bigSep (WV d) fun v => facts (F := F) d v (tgt d c) := by
    refine Entails.of_eq ?_
    rw [bigSep_sdiff_split hT.1]; rfl
  ihave #HSS := hjoin $$ []
  · isplitr; · iexact HT
    iexact HS2
  imod (take_slot c d w hW hw (WV d) ⟨w, hW, le_rfl⟩) $$ [Htok] with ⟨Hslot, Hr⟩
  · isplitr; · iexact HS
    isplitr; · iexact HSS
    iexact Htok
  iapply Hk
  isplitl [HO]; · iexists _; iexact HO
  isplitl [Hat]; · iexact Hat
  isplitl [Hslot Hr]
  · isplitl [Hslot]; · iexact Hslot
    iexact Hr
  iempintro

/-- The opening signal that hands over the slots of direction `d`. -/
theorem op_bar (d : Bool) {n : ℕ} {l : List Tok} {dv : Dev nD} {q : Sem sig} {a : ℤ}
    (hdv : dv = fro d c) (hq : q = barS) (ha : a = ((1 : ℕ) : ℤ)) (hdue : dueA.drop n = (0, d, 0) :: dueA.drop (n + 1))
    (hok : okT [.bt d, .sl d] l = true) {Q : α → sProp 𝕄} {k : PUnit → Prog (TpuEff nD τ sig (Elt F) Λ₀ .tc) α}
    (hk : St m c (n + 1) ([] ++ restT [.bt d, .sl d] l) ⊢ WP c (k ⟨⟩) Q) :
    St m c n l ⊢ WP c (.op (.semSignal (Dev.tc dv : Thread nD τ) q a) k) Q := by
  subst hdv hq ha
  refine St.step m _ _ hok ?_ hk
  simp only [toks, Rt]
  iintro ⟨#HC, HO, Htok, Hsl, -⟩ Hk
  ihave HI := (Ctx_inv m (cell_bar (fro d c))) $$ HC
  ihave #Hr0 := (Ctx_reached m (cell_bar (fro d c))) $$ HC
  unfold cInv Owe
  icases HI with ⟨%κ, #HI⟩
  icases HO with ⟨%W, HO⟩
  iapply (Rounds.wp_signal 𝒱₀ ER (Rd m) (c : Thread nD τ) none (dst := ((fro d c : Dev nD) : Thread nD τ)) (κ := κ) (r := 0)
      (d := bif d then 0 else 1) (by rw [duties_bar]; cases d <;> decide) rfl 1 (owed (n + 1) c) (owed_step hdue c)) $$ [HO Htok Hsl]
  · isplitr; · iexact HI
    isplitl [HO]; · iexact HO
    isplitl [Htok]; · iexact Htok
    isplitl [Hsl]
    · rw [payload_bar]; unfold barPay; rw [tgt_fro]; iexact Hsl
    iexact Hr0
  iintro HO
  iapply Hk
  isplitl [HO]; · iexists W; iexact HO
  iempintro

theorem bar_slots (d : Bool) : iprop(Ctx m ∗ barPay (F := F) d c) ⊢ toks m c [.dd d 0, .dd d 1, .dd d 2, .dd d 3] := by
  have h (e : ℕ) (he : e < 4) : Ctx m ⊢ reached (ER (F := F)) (rC d e (tgt d c)) (e / 4) := by
    rw [Nat.div_eq_of_lt he]; exact Ctx_reached m (cell_r d e (tgt d c))
  unfold barPay
  simp only [toks, Rt]
  rw [show Finset.range 4 = insert 0 (insert 1 (insert 2 {3})) from by decide, bs_insert (by decide), bs_insert (by decide), bs_insert (by decide), bs_one]
  iintro ⟨#HC, H0, H1, H2, H3⟩
  isplitl [H0]
  · isplitl [H0]; · iexact H0
    iapply (h 0 (by decide)); iexact HC
  isplitl [H1]
  · isplitl [H1]; · iexact H1
    iapply (h 1 (by decide)); iexact HC
  isplitl [H2]
  · isplitl [H2]; · iexact H2
    iapply (h 2 (by decide)); iexact HC
  isplitl [H3]
  · isplitl [H3]; · iexact H3
    iapply (h 3 (by decide)); iexact HC
  iempintro

/-- The opening wait: both neighbours' slots. -/
theorem op_barwait {n : ℕ} {l : List Tok} {q : Sem sig} {a : ℤ} (hq : q = barS) (ha : a = ((2 : ℕ) : ℤ))
    (hlev : ∀ a ∈ dueA.drop n, 1 < ixA a ∧ ixA a < 64)
    (hok : okT [.bp] l = true) {Q : α → sProp 𝕄} {k : PUnit → Prog (TpuEff nD τ sig (Elt F) Λ₀ .tc) α}
    (hk : St m c n ([.bd] ++ ([.dd true 0, .dd true 1, .dd true 2, .dd true 3] ++ [.dd false 0, .dd false 1, .dd false 2, .dd false 3]) ++ restT [.bp] l) ⊢ WP c (k ⟨⟩) Q) :
    St m c n l ⊢ WP c (.op (.semWait q a) k) Q := by
  subst hq ha
  refine St.step m _ _ hok ?_ hk
  iintro ⟨#HC, HO, Hbp⟩ Hk
  ihave HI := (Ctx_inv m (cell_bar c)) $$ HC
  ihave Hbp := (show toks m c [.bp] ⊢ iprop((atPos ER (barC c) 0 ∅ 0 ∗ cred (tallyAt (barC c) 1 2)) ∗ emp) from Entails.of_eq (by simp only [toks, Rt])) $$ Hbp
  icases Hbp with ⟨⟨Hat, Hcr⟩, -⟩
  unfold cInv Owe
  icases HI with ⟨%κ, #HI⟩
  icases HO with ⟨%W, HO⟩
  iapply (Rounds.wp_wait_rest_token 𝒱₀ ER (Rd m) (c : Thread nD τ) none (κ := κ)
      (wpE_semWait_eq 𝒱₀ (c : Thread nD τ) none Set.univ) (Set.mem_univ _) 1 (O := owed n c) (W := W) (R := 0) (m := 0) (T := ∅)
      (by rw [expect_bar])) $$ [Hcr HO Hat]
  · isplitr; · iexact HI
    isplitl [Hcr]; · iexact Hcr
    isplitl [HO]; · iexact HO
    isplitr
    · iapply (may_wait c (.reg barS) 1 n (by decide) hlev); iapply (Ctx_lev m); iexact HC
    iexact Hat
  iintro ⟨HO, Hat, -, Hpay⟩
  ihave Hp := (Entails.of_eq (show (bigSep ((Rd m).duties (barC c) 0 \ ∅) fun v => (Rd m).payload (barC c) 0 v)
      = iprop(barPay (F := F) true c ∗ barPay (F := F) false c) from by
    rw [Finset.sdiff_empty, duties_bar, bs_insert (by decide), bs_one]; rfl)) $$ Hpay
  icases Hp with ⟨H1, H2⟩
  iapply Hk
  isplitl [HO]; · iexists _; iexact HO
  iapply (toks_append m c [.bd] _)
  isplitl [Hat]
  · simp only [toks, Rt]; isplitl [Hat]; · iexact Hat
    iempintro
  iapply (toks_append m c _ _)
  isplitl [H1]
  · iapply (bar_slots m c true); isplitr; · iexact HC
    iexact H1
  iapply (bar_slots m c false); isplitr; · iexact HC
  iexact H2

end
end Cert.RingMM
-- ==== Proof.OpsMem.lean ====
/-
The steps inside a device: staging the inputs, the products, and their way into the result.
-/
module

public import proofs.«01_k».proof.Proof.OpsRing
public import Idealize.ShloMosaic.Lib.Pipeline.Value

@[expose] public section

noncomputable section

/-! The steps on the device's own memory, each proved once: loading and rounding, a product, a copy out and its wait. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Ownership of memrefs and the accesses -/

section
variable (c : Dev nD) {α : Type} {sp sp' : Space} {sh : Shape} {e : EltTy}

omit [FloatOps F] in
theorem up1 : S1024x1024.ShapeCasts S1x1024x1024 := shapeCasts_S1x1024x1024_S1024x1024.symm

omit [FloatOps F] in
theorem sq_of (mr : Memref sig .tc sp sh e) (s' : Shape) (h : sh.Squeezes s') (hc : s'.ShapeCasts sh) (q : PosShare TreeShare) (X : s'.Idx → Elt F e) :
    ownsT c mr q (shapeCast sh X hc) ⊢ ownsT c (mr.squeeze s' h) q X := by
  unfold ownsT owns
  iintro ⟨%f, %hf, H⟩
  iexists f
  isplitr
  · ipureintro
    show shapeCast s' (mr.view.read (Elt F) f) h.numel_eq = X
    rw [hf]; exact shapeCast_shapeCast X hc _
  · iapply (Entails.of_eq (congrArg (fun S => (mr.view.loc (c : Thread nD τ) ↦[S]{q} f : sProp 𝕄)) (View.set_reshape mr.view h.numel_eq).symm)); iexact H

omit [FloatOps F] in
theorem sq_to (mr : Memref sig .tc sp sh e) (s' : Shape) (h : sh.Squeezes s') (hc : s'.ShapeCasts sh) (q : PosShare TreeShare) (X : s'.Idx → Elt F e) :
    ownsT c (mr.squeeze s' h) q X ⊢ ownsT c mr q (shapeCast sh X hc) := by
  unfold ownsT owns
  iintro ⟨%f, %hf, H⟩
  iexists f
  isplitr
  · ipureintro
    rw [← hf]
    exact (shapeCast_shapeCast (mr.view.read (Elt F) f) h.numel_eq hc).symm
  · iapply (Entails.of_eq (congrArg (fun S => (mr.view.loc (c : Thread nD τ) ↦[S]{q} f : sProp 𝕄)) (View.set_reshape mr.view h.numel_eq))); iexact H

theorem wp_load_owns {Q : α → sProp 𝕄} {cs : CoreSpace} {mr : Memref sig .tc cs sh e} {r : Rect sh} (hr : ∀ a, r.stride a = 1) {q : PosShare TreeShare}
    {X : r.shape.Idx → Elt F e} {hl : mr.view.LoadsAt r} {k : (r.shape.Idx → Elt F e) → Prog (TpuEff nD τ sig (Elt F) Λ₀ .tc) α} :
    ownsT c (mr.slice r hr) q X ⊢ iprop((ownsT c (mr.slice r hr) q X -∗ WP c (k X) Q) -∗ WP c (.op (.load mr r.toLoadRect hl) k) Q) := by
  unfold ownsT owns
  iintro ⟨%f, %hf, H⟩ Hk
  subst hf
  iapply (wp_load_rect 𝒱₀ (c : Thread nD τ) none Set.univ (m := mr) (r := r) (S := (mr.slice r hr).view.set) (Finset.Subset.refl _)) $$ H
  iintro H
  iapply Hk
  iexists f
  isplitr; · ipureintro; rfl
  iexact H

theorem wp_store_owns {Q : α → sProp 𝕄} {cs : CoreSpace} {mr : Memref sig .tc cs sh e} {r : Rect sh} (hr : ∀ a, r.stride a = 1)
    {w : r.shape.Idx → Elt F e} {hx : (mr.access r).Stores Finset.univ} {hm : Finset.univ = Finset.univ ∨ ∀ a, r.stride a = 1}
    {k : PUnit → Prog (TpuEff nD τ sig (Elt F) Λ₀ .tc) α} :
    anyT c (mr.slice r hr) ⊢ iprop((ownsT c (mr.slice r hr) fullShare w -∗ WP c (k ⟨⟩) Q) -∗ WP c (.op (.store mr r w Finset.univ hx hm) k) Q) := by
  unfold anyT ownsT owns
  iintro ⟨%X, %f, -, H⟩ Hk
  iapply (wp_store 𝒱₀ (c : Thread nD τ) none Set.univ (m := mr) (r := r) (S := (mr.slice r hr).view.set) (Finset.Subset.refl _)) $$ H
  iintro H
  iapply Hk
  iexists (mr.access r).write (Elt F) f w Finset.univ
  isplitr; · ipureintro; exact View.read_write_univ f w
  iexact H

omit [FloatOps F] in
/-- A slice that is all of a memref. -/
theorem whole_emb (off : Fin sh.rank → ℕ) (h0 : ∀ a, off a = 0) (inb : ∀ a, off a + sh.size a ≤ sh.size a) (j : (Rect.unit off sh.size inb).shape.Idx) :
    (Rect.unit off sh.size inb).emb j = j := by
  funext a
  refine Fin.ext ?_
  rw [Rect.emb_apply]
  show off a + 1 * (j a).val = (j a).val
  rw [h0, Nat.zero_add, Nat.one_mul]

theorem wp_load_all {Q : α → sProp 𝕄} {cs : CoreSpace} {mr : Memref sig .tc cs sh e} (off : Fin sh.rank → ℕ) (h0 : ∀ a, off a = 0)
    {inb : ∀ a, off a + sh.size a ≤ sh.size a} {q : PosShare TreeShare}
    {X : sh.Idx → Elt F e} {hl : mr.view.LoadsAt (Rect.unit off sh.size inb)} {k : (sh.Idx → Elt F e) → Prog (TpuEff nD τ sig (Elt F) Λ₀ .tc) α} :
    ownsT c mr q X ⊢ iprop((ownsT c mr q X -∗ WP c (k X) Q) -∗ WP c (.op (.load mr (Rect.unit off sh.size inb).toLoadRect hl) k) Q) := by
  unfold ownsT owns
  iintro ⟨%f, %hf, H⟩ Hk
  iapply (wp_load_rect 𝒱₀ (c : Thread nD τ) none Set.univ (m := mr) (r := Rect.unit off sh.size inb) (S := mr.view.set) (View.set_slice_subset _ _)) $$ H
  iintro H
  have hv : (mr.access (Rect.unit off sh.size inb)).read (Elt F) f = X := by
    subst hf
    funext j
    show mr.view.read (Elt F) f ((Rect.unit off sh.size inb).emb j) = mr.view.read (Elt F) f j
    rw [whole_emb off h0 inb j]
  rw [hv]
  iapply Hk
  iexists f
  isplitr; · ipureintro; exact hf
  iexact H

/-- A copy within a device. -/
theorem wp_copy {Q : α → sProp 𝕄} {src : Memref sig .tc sp sh e} {dst : Memref sig .tc sp' sh e} {q : PosShare TreeShare} {X : sh.Idx → Elt F e} {qs : DmaSem sig}
    (hpos : 0 < dst.view.dmaCredit) {N : ℕ} (hN : dst.view.dmaCredit = N)
    {hsrc : src.view.WordExact} {hdst : dst.view.WordExact} {hsem : DmaTarget.Typed (nD := nD) (p := .tc) sp (.dma qs) (.here dst)}
    {k : PUnit → Prog (TpuEff nD τ sig (Elt F) Λ₀ .tc) α} :
    iprop(ownsT c src q X ∗ anyT c dst ∗ semVal ((c : Thread nD τ), .dma qs) 0)
      ⊢ iprop((Transfers.Flight EC (c : Thread nD τ) (.dma qs) 0 N iprop(ownsT c dst fullShare X ∗ ownsT c src q X) -∗ WP c (k ⟨⟩) Q)
        -∗ WP c (.op (.enqueueDma src (.here dst) (.dma qs) hsrc hdst hsem) k) Q) := by
  unfold anyT ownsT owns
  iintro ⟨⟨%f, %hf, Hs⟩, ⟨%Y, %g, -, Hd⟩, Hv⟩ Hk
  iapply (Transfers.wp_dmaLocal EC 𝒱₀ (c : Thread nD τ) none 0 N (sm := .dma qs) (dst := dst) (show dst.view.amount (.dma qs) = N from hN) (hN ▸ hpos) (Finset.Subset.refl _)) $$ [Hs Hd Hv]
  · isplitl [Hs]; · iexact Hs
    isplitl [Hd]; · iexact Hd
    iexact Hv
  iintro Hf
  iapply Hk
  iapply (Transfers.Flight_mono EC (c : Thread nD τ) (D' := iprop((∃ f, ⌜dst.view.read (Elt F) f = X⌝ ∗ dst.view.loc (c : Thread nD τ) ↦[dst.view.set]{fullShare} f)
    ∗ (∃ f, ⌜src.view.read (Elt F) f = X⌝ ∗ src.view.loc (c : Thread nD τ) ↦[src.view.set]{q} f))) (by
      iintro ⟨Hd, Hs⟩
      isplitl [Hd]
      · iexists _
        isplitr
        rotate_left
        · iexact Hd
        · ipureintro; exact (View.read_write_univ _ _).trans hf
      · iexists f
        isplitr; · ipureintro; exact hf
        iexact Hs)) $$ Hf

end

/-! ## The steps -/

section
variable (c : Dev nD) {α : Type}

/-- Half of an array on its way to the staging buffer, -/
theorem op_stage_enq (d : Bool) (h : ℕ) {n : ℕ} {l : List Tok} {src : Memref sig .tc .hbm S1024x1024 .f32} {dst : Memref sig .tc .vmem S1024x1024 .f32} {q : DmaSem sig}
    (hs : src = inM d (hf h)) (hd : dst = stM) (hq : q = stgS) (hok : okT [.inp d h, .stg, .ssv] l = true)
    {hsrc : src.view.WordExact} {hdst : dst.view.WordExact} {hsem : DmaTarget.Typed (nD := nD) (p := .tc) .hbm (.dma q) (.here dst)}
    {Q : α → sProp 𝕄} {k : PUnit → Prog (TpuEff nD τ sig (Elt F) Λ₀ .tc) α}
    (hk : St m c n ([.sfl d h] ++ restT [.inp d h, .stg, .ssv] l) ⊢ WP c (k ⟨⟩) Q) :
    St m c n l ⊢ WP c (.op (.enqueueDma src (.here dst) (.dma q) hsrc hdst hsem) k) Q := by
  subst hs hd hq
  refine St.step m _ _ hok ?_ hk
  simp only [toks, Rt]
  iintro ⟨-, HO, Hi, Hst, Hv, -⟩ Hk
  iapply (wp_copy c (src := inM d (hf h)) (dst := stM) (View.dmaCredit_pos _ (by decide)) (N := NS) rfl) $$ [Hi Hst Hv]
  · isplitl [Hi]; · iexact Hi
    isplitl [Hst]; · iexact Hst
    iexact Hv
  iintro Hf
  iapply Hk
  isplitl [HO]; · iexact HO
  isplitl [Hf]; · iexact Hf
  iempintro

/-- and there. -/
theorem op_stage_wait (d : Bool) (h : ℕ) {n : ℕ} {l : List Tok} {sp sp' : Space} {s s' : Shape} {t t' : EltTy} {q : DmaSem sig}
    {src : Memref sig .tc sp s t} {dst : Memref sig .tc sp' s' t'} (hq : q = stgS) (hN : dst.view.dmaCredit = NS)
    (hlev : ∀ a ∈ dueA.drop n, 0 < ixA a ∧ ixA a < 64) (hok : okT [.sfl d h] l = true)
    {hsrc : src.view.WordExact} {hdst : dst.view.WordExact} {Q : α → sProp 𝕄} {k : PUnit → Prog (TpuEff nD τ sig (Elt F) Λ₀ .tc) α}
    (hk : St m c n ([.inp d h, .sld d h, .ssv] ++ restT [.sfl d h] l) ⊢ WP c (k ⟨⟩) Q) :
    St m c n l ⊢ WP c (.op (.waitDma2 q src dst hsrc hdst) k) Q := by
  subst hq
  refine St.step m _ _ hok ?_ hk
  simp only [toks, Rt]
  unfold Owe
  iintro ⟨#HC, ⟨%W, HO⟩, Hf, -⟩ Hk
  iapply (Transfers.wp_waitLocalO EC 𝒱₀ (c : Thread nD τ) none 0 hN (O := owed n c) (W := W)) $$ [Hf HO]
  · isplitl [Hf]; · iexact Hf
    isplitl [HO]; · iexact HO
    iapply (may_wait c (.dma stgS) 0 n (by decide) hlev); iapply (Ctx_lev m); iexact HC
  iintro ⟨⟨Hs, Hi⟩, Hv, HO⟩
  iapply Hk
  isplitl [HO]; · iexists _; iexact HO
  isplitl [Hi]; · iexact Hi
  isplitl [Hs]; · iexact Hs
  isplitl [Hv]; · iexact Hv
  iempintro

/-- The staging buffer read. -/
theorem op_stage_load (d : Bool) (h : ℕ) {n : ℕ} {l : List Tok} (hok : okT [.sld d h] l = true)
    {inb : ∀ a, (![0, 0] : Fin 2 → ℕ) a + S1024x1024.size a ≤ S1024x1024.size a}
    {hl : (stM : Memref sig .tc .vmem S1024x1024 .f32).view.LoadsAt (Rect.unit (s := S1024x1024) ![0, 0] S1024x1024.size inb)}
    {Q : α → sProp 𝕄} {k : (S1024x1024.Idx → Elt F .f32) → Prog (TpuEff nD τ sig (Elt F) Λ₀ .tc) α}
    (hk : St m c n ([.stg] ++ restT [.sld d h] l) ⊢ WP c (k (inpV m d (hf h) c)) Q) :
    St m c n l ⊢ WP c (.op (.load stM (Rect.unit (s := S1024x1024) ![0, 0] S1024x1024.size inb).toLoadRect hl) k) Q := by
  refine St.step m _ _ hok ?_ hk
  simp only [toks, Rt]
  iintro ⟨-, HO, Hs, -⟩ Hk
  iapply (wp_load_all c (mr := stM) ![0, 0] (by decide) (inb := inb)) $$ Hs
  iintro Hs
  iapply Hk
  isplitl [HO]; · iexact HO
  isplitl [Hs]
  · unfold anyT; iexists _; iexact Hs
  iempintro

/-- A read whose value is not used. -/
theorem op_load_dead (t : Tok) {n : ℕ} {l : List Tok} {cs : CoreSpace} {sh : Shape} {e : EltTy} {mr : Memref sig .tc cs sh e} {r : Rect sh} {hr : ∀ a, r.stride a = 1}
    (ht : Rt m c t = anyT c (mr.slice r hr)) (hok : okT [t] l = true)
    {hl : mr.view.LoadsAt r} {Q : α → sProp 𝕄} {k : (r.shape.Idx → Elt F e) → Prog (TpuEff nD τ sig (Elt F) Λ₀ .tc) α}
    (hk : ∀ v, St m c n ([t] ++ restT [t] l) ⊢ WP c (k v) Q) :
    St m c n l ⊢ WP c (.op (.load mr r.toLoadRect hl) k) Q := by
  refine St.step m [t] [t] (n' := n) hok (Pk := iprop(∀ v, WP c (k v) Q)) ?_ (by
    iintro H %v; iapply (hk v); iexact H)
  simp only [toks, ht]
  unfold anyT
  iintro ⟨-, HO, ⟨%X, Hs⟩, -⟩ Hk
  iapply (wp_load_owns c (mr := mr) hr) $$ Hs
  iintro Hs
  ihave Hk := Hk $$ [HO Hs]
  · isplitl [HO]; · iexact HO
    isplitl [Hs]
    · iexists X; iexact Hs
    iempintro
  iapply Hk

/-- A half of an array stored, rounded. -/
theorem op_store_half (d : Bool) (h : ℕ) {n : ℕ} {l : List Tok} {sh : Shape} {mr : Memref sig .tc .vmem sh .bf16} {r : Rect sh} {hr : ∀ a, r.stride a = 1}
    {w : r.shape.Idx → Elt F .bf16} (ht : Rt m c (.hst d h) = anyT c (mr.slice r hr))
    (hw : Rt m c (.hld d h) = ownsT c (mr.slice r hr) fullShare w) (hok : okT [.hst d h] l = true)
    {hx : (mr.access r).Stores Finset.univ} {hm : Finset.univ = Finset.univ ∨ ∀ a, r.stride a = 1}
    {Q : α → sProp 𝕄} {k : PUnit → Prog (TpuEff nD τ sig (Elt F) Λ₀ .tc) α}
    (hk : St m c n ([.hld d h] ++ restT [.hst d h] l) ⊢ WP c (k ⟨⟩) Q) :
    St m c n l ⊢ WP c (.op (.store mr r w Finset.univ hx hm) k) Q := by
  refine St.step m _ _ hok ?_ hk
  simp only [toks, ht, hw]
  iintro ⟨-, HO, Hs, -⟩ Hk
  iapply (wp_store_owns c (mr := mr) hr) $$ Hs
  iintro Hs
  iapply Hk
  isplitl [HO]; · iexact HO
  isplitl [Hs]; · iexact Hs
  iempintro

/-- Half of the device's own rows read, -/
theorem op_load_half (h : ℕ) (hh : h < 2) {n : ℕ} {l : List Tok} {off : Fin 2 → ℕ} (ho : off = ![1024 * (hf h).val, 0])
    {inb : ∀ a, off a + S1024x1024.size a ≤ S2048x1024.size a} (hok : okT [.rr true h] l = true)
    {hl : (a16M : Memref sig .tc .vmem S2048x1024 .bf16).view.LoadsAt (Rect.unit (s := S2048x1024) off S1024x1024.size inb)}
    {Q : α → sProp 𝕄} {k : (S1024x1024.Idx → Elt F .bf16) → Prog (TpuEff nD τ sig (Elt F) Λ₀ .tc) α}
    (hk : St m c n ([.rr true h] ++ restT [.rr true h] l) ⊢ WP c (k (Xs m true h c)) Q) :
    St m c n l ⊢ WP c (.op (.load a16M (Rect.unit (s := S2048x1024) off S1024x1024.size inb).toLoadRect hl) k) Q := by
  subst ho
  refine St.step m _ _ hok ?_ hk
  have hs : srcM true h = a16H (hf h) := by unfold srcM; rw [if_pos hh]
  simp only [toks, Rt, hs]
  iintro ⟨-, HO, Hs, -⟩ Hk
  iapply (wp_load_owns c (mr := a16M) (fun _ => rfl)) $$ Hs
  iintro Hs
  iapply Hk
  isplitl [HO]; · iexact HO
  isplitl [Hs]; · iexact Hs
  iempintro

/-- a received half block read, -/
theorem op_load_slot (d : Bool) (κ : ℕ) (hκ : 2 ≤ κ) {n : ℕ} {l : List Tok} {mr : Memref sig .tc .vmem S4x1024x1024 .bf16} (hmr : mr = bufM d)
    {off : Fin 3 → ℕ} (ho : off = ![(sl (κ + 2)).val, 0, 0])
    {inb : ∀ a, off a + S1x1024x1024.size a ≤ S4x1024x1024.size a} (hok : okT [.rr d κ] l = true)
    {hl : mr.view.LoadsAt (Rect.unit (s := S4x1024x1024) off S1x1024x1024.size inb)}
    {Q : α → sProp 𝕄} {k : (S1x1024x1024.Idx → Elt F .bf16) → Prog (TpuEff nD τ sig (Elt F) Λ₀ .tc) α}
    (hk : St m c n ([.rr d κ] ++ restT [.rr d κ] l) ⊢ WP c (k (shapeCast S1x1024x1024 (Xs m d κ c) up1)) Q) :
    St m c n l ⊢ WP c (.op (.load mr (Rect.unit (s := S4x1024x1024) off S1x1024x1024.size inb).toLoadRect hl) k) Q := by
  subst ho hmr
  refine St.step m _ _ hok ?_ hk
  have hs : srcM d κ = slotM d (sl (κ + 2)) := by unfold srcM; rw [if_neg (by omega)]
  simp only [toks, Rt, hs]
  iintro ⟨-, HO, Hs, -⟩ Hk
  ihave Hs := (sq_to c (slotU d (sl (κ + 2))) S1024x1024 squeezes_S1x1024x1024_S1024x1024 up1 _ _) $$ Hs
  iapply (wp_load_owns c (mr := bufM d) (fun _ => rfl)) $$ Hs
  iintro Hs
  iapply Hk
  isplitl [HO]; · iexact HO
  isplitl [Hs]
  · iapply (sq_of c (slotU d (sl (κ + 2))) S1024x1024 squeezes_S1x1024x1024_S1024x1024 up1 _ _); iexact Hs
  iempintro

/-- B read. -/
theorem op_load_b {n : ℕ} {l : List Tok} (hok : okT [.bb] l = true)
    {inb : ∀ a, (![0, 0] : Fin 2 → ℕ) a + S1024x2048.size a ≤ S1024x2048.size a}
    {hl : (b16M : Memref sig .tc .vmem S1024x2048 .bf16).view.LoadsAt (Rect.unit (s := S1024x2048) ![0, 0] S1024x2048.size inb)}
    {Q : α → sProp 𝕄} {k : (S1024x2048.Idx → Elt F .bf16) → Prog (TpuEff nD τ sig (Elt F) Λ₀ .tc) α}
    (hk : St m c n ([.bb] ++ restT [.bb] l) ⊢ WP c (k (bmV m c)) Q) :
    St m c n l ⊢ WP c (.op (.load b16M (Rect.unit (s := S1024x2048) ![0, 0] S1024x2048.size inb).toLoadRect hl) k) Q := by
  refine St.step m _ _ hok ?_ hk
  simp only [toks, Rt]
  iintro ⟨-, HO, Hs, -⟩ Hk
  iapply (wp_load_all c (mr := b16M) ![0, 0] (by decide) (inb := inb)) $$ Hs
  iintro Hs
  iapply Hk
  isplitl [HO]; · iexact HO
  isplitl [Hs]; · iexact Hs
  iempintro

/-- A product stored into its accumulator. -/
theorem op_store_acc (d : Bool) (κ j : ℕ) (hj : accK d κ = hf j) {n : ℕ} {l : List Tok} {off : Fin 3 → ℕ} (ho : off = ![(hf j).val, 0, 0])
    {inb : ∀ a, off a + S1x1024x2048.size a ≤ S2x1024x2048.size a} {w : S1x1024x2048.Idx → Elt F .f32}
    (hw : w = accV (mm (Xs m d κ c) (bmV m c))) (hok : okT [.acc j] l = true)
    {hx : ((cbufM : Memref sig .tc .vmem S2x1024x2048 .f32).access (Rect.unit (s := S2x1024x2048) off S1x1024x2048.size inb)).Stores Finset.univ}
    {hm : Finset.univ = Finset.univ ∨ ∀ a, (Rect.unit (s := S2x1024x2048) off S1x1024x2048.size inb).stride a = 1}
    {Q : α → sProp 𝕄} {k : PUnit → Prog (TpuEff nD τ sig (Elt F) Λ₀ .tc) α}
    (hk : St m c n ([.awr d κ] ++ restT [.acc j] l) ⊢ WP c (k ⟨⟩) Q) :
    St m c n l ⊢ WP c (.op (.store cbufM (Rect.unit (s := S2x1024x2048) off S1x1024x2048.size inb) w Finset.univ hx hm) k) Q := by
  subst ho hw
  refine St.step m _ _ hok ?_ hk
  simp only [toks, Rt, hj]
  iintro ⟨-, HO, Hs, -⟩ Hk
  iapply (wp_store_owns c (mr := cbufM) (fun _ => rfl)) $$ Hs
  iintro Hs
  iapply Hk
  isplitl [HO]; · iexact HO
  isplitl [Hs]; · iexact Hs
  iempintro

/-- A product on its way into the result, -/
theorem op_out_enq (d : Bool) (κ j : ℕ) (hj : accK d κ = hf j) {n : ℕ} {l : List Tok} {src : Memref sig .tc .vmem S1024x2048 .f32}
    {dst : Memref sig .tc .hbm S1024x2048 .f32} {q : DmaSem sig}
    (hs : src = accM (hf j)) (hd : dst = outM (rowB d κ c)) (hq : q = cpyS (hf j)) (hok : okT [.awr d κ, .asv j, .ob d κ] l = true)
    {hsrc : src.view.WordExact} {hdst : dst.view.WordExact} {hsem : DmaTarget.Typed (nD := nD) (p := .tc) .vmem (.dma q) (.here dst)}
    {Q : α → sProp 𝕄} {k : PUnit → Prog (TpuEff nD τ sig (Elt F) Λ₀ .tc) α}
    (hk : St m c n ([.fl d κ] ++ restT [.awr d κ, .asv j, .ob d κ] l) ⊢ WP c (k ⟨⟩) Q) :
    St m c n l ⊢ WP c (.op (.enqueueDma src (.here dst) (.dma q) hsrc hdst hsem) k) Q := by
  subst hs hd hq
  refine St.step m _ _ hok ?_ hk
  simp only [toks, Rt, hj]
  iintro ⟨-, HO, Ha, Hv, Ho, -⟩ Hk
  unfold accV
  ihave Ha := (sq_of c (accU (hf j)) S1024x2048 squeezes_S1x1024x2048_S1024x2048 shapeCasts_S1024x2048_S1x1024x2048 _ _) $$ Ha
  iapply (wp_copy c (src := accM (hf j)) (dst := outM (rowB d κ c)) (View.dmaCredit_pos _ (by decide)) (N := NO) rfl) $$ [Ha Ho Hv]
  · isplitl [Ha]; · iexact Ha
    isplitl [Ho]; · iexact Ho
    iexact Hv
  iintro Hf
  iapply Hk
  isplitl [HO]; · iexact HO
  isplitl [Hf]
  · iapply (Transfers.Flight_mono EC (c : Thread nD τ) (D' := iprop(ownsT c (outM (rowB d κ c)) fullShare (mm (Xs m d κ c) (bmV m c)) ∗ anyT c (accU (hf j)))) (by
      iintro ⟨Ho, Ha⟩
      isplitl [Ho]; · iexact Ho
      unfold anyT
      iexists accV (mm (Xs m d κ c) (bmV m c))
      iapply (sq_to c (accU (hf j)) S1024x2048 squeezes_S1x1024x2048_S1024x2048 shapeCasts_S1024x2048_S1x1024x2048 _ _); iexact Ha)) $$ Hf
  iempintro

/-- and there. -/
theorem op_out_wait (d : Bool) (κ j : ℕ) (hj : accK d κ = hf j) {n : ℕ} {l : List Tok} {sp sp' : Space} {s s' : Shape} {t t' : EltTy} {q : DmaSem sig}
    {src : Memref sig .tc sp s t} {dst : Memref sig .tc sp' s' t'} (hq : q = cpyS (hf j)) (hN : dst.view.dmaCredit = NO)
    (hlev : ∀ a ∈ dueA.drop n, 0 < ixA a ∧ ixA a < 64) (hok : okT [.fl d κ] l = true)
    {hsrc : src.view.WordExact} {hdst : dst.view.WordExact} {Q : α → sProp 𝕄} {k : PUnit → Prog (TpuEff nD τ sig (Elt F) Λ₀ .tc) α}
    (hk : St m c n ([.od d κ, .acc j, .asv j] ++ restT [.fl d κ] l) ⊢ WP c (k ⟨⟩) Q) :
    St m c n l ⊢ WP c (.op (.waitDma2 q src dst hsrc hdst) k) Q := by
  subst hq
  refine St.step m _ _ hok ?_ hk
  simp only [toks, Rt, hj]
  unfold Owe
  iintro ⟨#HC, ⟨%W, HO⟩, Hf, -⟩ Hk
  iapply (Transfers.wp_waitLocalO EC 𝒱₀ (c : Thread nD τ) none 0 hN (O := owed n c) (W := W)) $$ [Hf HO]
  · isplitl [Hf]; · iexact Hf
    isplitl [HO]; · iexact HO
    iapply (may_wait c (.dma (cpyS (hf j))) 0 n (by decide) hlev); iapply (Ctx_lev m); iexact HC
  iintro ⟨⟨Ho, Ha⟩, Hv, HO⟩
  iapply Hk
  isplitl [HO]; · iexists _; iexact HO
  isplitl [Ho]; · iexact Ho
  isplitl [Ha]; · iexact Ha
  isplitl [Hv]; · iexact Hv
  iempintro

/-! ## What changes only what is said -/

theorem back_zero (d : Bool) : back d 0 c = c := by revert d c; decide

theorem Xs_own (d : Bool) (h : ℕ) (hh : h < 2) : Xs m d h c = k0_pay1 (inpV m true (hf h) c) := by
  unfold Xs; rw [Nat.div_eq_of_lt hh, back_zero]

/-- A loaded half of A, in the shares lent to the two neighbours and the one kept. -/
theorem own_split (h : ℕ) (hh : h < 2) : toks m c [.hld true h] ⊢ toks m c [.lp true h, .lp false h, .rr true h] := by
  have hs (d : Bool) : srcM d h = a16H (hf h) := by unfold srcM; rw [if_pos hh]
  have q1 : srcQ true h = fullShare.left := by unfold srcQ; rw [if_pos hh]
  have q2 : srcQ false h = fullShare.right.left := by unfold srcQ; rw [if_pos hh]
  have q3 : srcR h = fullShare.right.right := by unfold srcR; rw [if_pos hh]
  simp only [toks, Rt, hs, q1, q2, q3, Xs_own m c _ h hh]
  iintro ⟨H, -⟩
  ihave H := (owns_halves _ _ _ _).1 $$ H
  icases H with ⟨H1, H⟩
  ihave H := (owns_halves _ _ _ _).1 $$ H
  icases H with ⟨H2, H3⟩
  isplitl [H1]; · iexact H1
  isplitl [H2]; · iexact H2
  isplitl [H3]; · iexact H3
  iempintro

theorem own_join (h : ℕ) (hh : h < 2) : toks m c [.lp true h, .lp false h, .rr true h] ⊢ toks m c [.hld true h] := by
  have hs (d : Bool) : srcM d h = a16H (hf h) := by unfold srcM; rw [if_pos hh]
  have q1 : srcQ true h = fullShare.left := by unfold srcQ; rw [if_pos hh]
  have q2 : srcQ false h = fullShare.right.left := by unfold srcQ; rw [if_pos hh]
  have q3 : srcR h = fullShare.right.right := by unfold srcR; rw [if_pos hh]
  simp only [toks, Rt, hs, q1, q2, q3, Xs_own m c _ h hh]
  iintro ⟨H1, H2, H3, -⟩
  isplitl
  · iapply (owns_halves _ _ _ _).2
    isplitl [H1]; · iexact H1
    iapply (owns_halves _ _ _ _).2
    isplitl [H2]; · iexact H2
    iexact H3
  iempintro

theorem colR_disjoint (t t' : Fin 2) (h : t ≠ t') : Disjoint (colR t).set (colR t').set :=
  Ring.lead_disjoint (s := S1024x2048) (1 : Fin 2) 1024 (fun j : Fin 2 => (![0, 1024 * j.val] : Fin 2 → ℕ)) S1024x1024.size
    (fun j => by revert j; decide) (fun _ => rfl) rfl t t' h
theorem colR_cover : Finset.univ.biUnion (fun t => (colR t).set) = Finset.univ :=
  Ring.lead_cover (s := S1024x2048) (1 : Fin 2) 1024 (fun j : Fin 2 => (![0, 1024 * j.val] : Fin 2 → ℕ)) S1024x1024.size
    (fun j => by revert j; decide) (fun _ => rfl) (fun j a h => by revert j a h; decide) rfl (fun a h => by revert a h; decide) rfl
theorem rowR_disjoint (t t' : Fin 2) (h : t ≠ t') : Disjoint (rowR t).set (rowR t').set :=
  Ring.lead_disjoint (s := S2048x1024) (0 : Fin 2) 1024 (fun j : Fin 2 => (![1024 * j.val, 0] : Fin 2 → ℕ)) S1024x1024.size
    (fun j => by revert j; decide) (fun _ => rfl) rfl t t' h
theorem rowR_cover : Finset.univ.biUnion (fun t => (rowR t).set) = Finset.univ :=
  Ring.lead_cover (s := S2048x1024) (0 : Fin 2) 1024 (fun j : Fin 2 => (![1024 * j.val, 0] : Fin 2 → ℕ)) S1024x1024.size
    (fun j => by revert j; decide) (fun _ => rfl) (fun j a h => by revert j a h; decide) rfl (fun a h => by revert a h; decide) rfl

omit [FloatOps F] in
theorem fin2 (Φ : Fin 2 → sProp 𝕄) : iprop(Φ 0 ∗ Φ 1) ⊢ bigSep Finset.univ Φ := by
  rw [show (Finset.univ : Finset (Fin 2)) = insert 0 {1} from rfl, bs_insert (by decide), bs_one]

/-- Both halves of B, rounded. -/
theorem b_join : toks m c [.hld false 0, .hld false 1] ⊢ toks m c [.bb] := by
  have hv (h : Fin 2) : k0_pay1 (inpV m false h c) = fun j => bmV m c ((colR h).emb j) := by
    exact (shapeCast_self _ _).trans rfl
  simp only [toks, Rt, hv]
  iintro ⟨H0, H1, -⟩
  isplitl
  · iapply (owns_of_rects (c : Thread nD τ) b16M fullShare colR (fun _ _ => rfl) colR_disjoint colR_cover (bmV m c))
    iapply (fin2 (F := F) _)
    isplitl [H0]; · iexact H0
    iexact H1
  iempintro

/-- A product computed from a loaded slot. -/
theorem pay_slot (X : S1024x1024.Idx → Elt F .bf16) (b : S1024x2048.Idx → Elt F .bf16) :
    k0_pay7 (shapeCast S1x1024x1024 X up1) b = accV (mm X b) := by
  show accV (mm (shapeCast S1024x1024 (shapeCast S1x1024x1024 X up1) _) b) = _
  rw [shapeCast_shapeCast]

end
end Cert.RingMM
-- ==== Proof.Body.lean ====
module

public import proofs.«01_k».proof.Proof.OpsMem
public import proofs.«01_k».proof.Proof.Gen.KernelIdeal.Points
public import proofs.«01_k».proof.Proof.Gen.KernelIdeal.Skeleton

@[expose] public section

noncomputable section

/-! The body once, at any device, from the start's tokens to the end's. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {α : Type} {F : FTy → Type} [FloatOps F]

local notation "𝕄" => MT nD τ sig ℕ (Elt F) ℕ UU ℕ

variable (m : (ℓ : Loc nD τ sig) → Buf (Elt F) ℓ)

open Cert.KernelIdeal.Gen in
theorem out_eq (b : Fin 16) (off : Fin 2 → ℕ) (h : off = ![1024 * b.val, 0]) {inb : ∀ a, off a + S1024x2048.size a ≤ S16384x2048.size a}
    {hr : ∀ a, (Rect.unit (s := S16384x2048) off S1024x2048.size inb).stride a = 1} :
    (oM : Memref sig .tc .hbm S16384x2048 .f32).slice (Rect.unit off S1024x2048.size inb) hr = outM b := by
  subst h; rfl

/-- Where the blocks of the output lie: the own ones, those that came from behind, those that came from ahead. -/
theorem off1_row : ∀ (c : Dev nD) (r : Fin 2), k0_off1 c (BitVec.ofNat 32 (1024 * r.val)) = ![1024 * (rowB true r.val c).val, 0] := by decide +kernel
theorem off2_row : ∀ (c : Dev nD) (r : Fin 7), k0_off2 c (k0_off2_at r).1 (k0_off2_at r).2 = ![1024 * (rowB true (r.val + 2) c).val, 0] := by decide +kernel
theorem off3_row : ∀ (c : Dev nD) (r : Fin 7), k0_off3 c (k0_off3_at r).1 (k0_off3_at r).2 = ![1024 * (rowB false (if r.val = 6 then 9 else r.val + 2) c).val, 0] := by decide +kernel

/-- Where the signals and the copies go. -/
theorem dev1_eq : ∀ c : Dev nD, (⟨k0_dev1 c, k0_dev1_lt c⟩ : Dev nD) = fro true c := by decide +kernel
theorem dev2_eq : ∀ c : Dev nD, (⟨k0_dev2 c, k0_dev2_lt c⟩ : Dev nD) = fro false c := by decide +kernel
theorem dev3_eq : ∀ c : Dev nD, (⟨k0_dev3 c, k0_dev3_lt c⟩ : Dev nD) = tgt true c := by decide +kernel
theorem dev4_eq : ∀ c : Dev nD, (⟨k0_dev4 c, k0_dev4_lt c⟩ : Dev nD) = tgt false c := by decide +kernel
theorem dev5_eq : ∀ c : Dev nD, (⟨k0_dev5 c, k0_dev5_lt c⟩ : Dev nD) = tgt true c := by decide +kernel
theorem dev6_eq : ∀ c : Dev nD, (⟨k0_dev6 c, k0_dev6_lt c⟩ : Dev nD) = tgt false c := by decide +kernel
theorem dev7_eq : ∀ c : Dev nD, (⟨k0_dev7 c, k0_dev7_lt c⟩ : Dev nD) = tgt true c := by decide +kernel
theorem dev8_eq : ∀ c : Dev nD, (⟨k0_dev8 c, k0_dev8_lt c⟩ : Dev nD) = tgt false c := by decide +kernel
theorem dev9_eq : ∀ c : Dev nD, (⟨k0_dev9 c, k0_dev9_lt c⟩ : Dev nD) = tgt true c := by decide +kernel
theorem dev10_eq : ∀ c : Dev nD, (⟨k0_dev10 c, k0_dev10_lt c⟩ : Dev nD) = tgt false c := by decide +kernel
theorem dev11_eq : ∀ c : Dev nD, (⟨k0_dev11 c, k0_dev11_lt c⟩ : Dev nD) = fro true c := by decide +kernel
theorem dev12_eq : ∀ c : Dev nD, (⟨k0_dev12 c, k0_dev12_lt c⟩ : Dev nD) = tgt true c := by decide +kernel
theorem dev13_eq : ∀ c : Dev nD, (⟨k0_dev13 c, k0_dev13_lt c⟩ : Dev nD) = fro false c := by decide +kernel
theorem dev14_eq : ∀ c : Dev nD, (⟨k0_dev14 c, k0_dev14_lt c⟩ : Dev nD) = tgt false c := by decide +kernel
theorem dev15_eq : ∀ c : Dev nD, (⟨k0_dev15 c, k0_dev15_lt c⟩ : Dev nD) = fro true c := by decide +kernel
theorem dev16_eq : ∀ c : Dev nD, (⟨k0_dev16 c, k0_dev16_lt c⟩ : Dev nD) = tgt true c := by decide +kernel
theorem dev17_eq : ∀ c : Dev nD, (⟨k0_dev17 c, k0_dev17_lt c⟩ : Dev nD) = fro false c := by decide +kernel
theorem dev18_eq : ∀ c : Dev nD, (⟨k0_dev18 c, k0_dev18_lt c⟩ : Dev nD) = tgt false c := by decide +kernel
theorem dev19_eq : ∀ c : Dev nD, (⟨k0_dev19 c, k0_dev19_lt c⟩ : Dev nD) = fro true c := by decide +kernel
theorem dev20_eq : ∀ c : Dev nD, (⟨k0_dev20 c, k0_dev20_lt c⟩ : Dev nD) = tgt true c := by decide +kernel
theorem dev21_eq : ∀ c : Dev nD, (⟨k0_dev21 c, k0_dev21_lt c⟩ : Dev nD) = fro false c := by decide +kernel
theorem dev22_eq : ∀ c : Dev nD, (⟨k0_dev22 c, k0_dev22_lt c⟩ : Dev nD) = tgt false c := by decide +kernel

/-- What a device holds before the run, and after it. -/
def startToks : List Tok :=
  [.rp true 0, .sp true 0, .rp true 1, .sp true 1, .rp true 2, .sp true 2, .rp true 3, .sp true 3, .rc true 0, .st true 0, .rc true 1, .st true 1,
   .rc true 2, .st true 2, .rc true 3, .st true 3, .rc true 4, .st true 4, .rc true 5, .st true 5, .rc true 6, .st true 6, .wc true 4, .ct true 4,
   .wc true 5, .ct true 5, .wc true 6, .ct true 6, .cn true 0, .fa true 3, .bt true, .sl true, .inp true 0, .hst true 0, .inp true 1, .hst true 1,
   .rp false 0, .sp false 0, .rp false 1, .sp false 1, .rp false 2, .sp false 2, .rp false 3, .sp false 3, .rc false 0, .st false 0, .rc false 1,
   .st false 1, .rc false 2, .st false 2, .rc false 3, .st false 3, .rc false 4, .st false 4, .rc false 5, .st false 5, .rc false 7, .st false 7,
   .wc false 4, .ct false 4, .wc false 5, .ct false 5, .wc false 7, .ct false 7, .cn false 0, .fa false 3, .bt false, .sl false, .inp false 0,
   .hst false 0, .inp false 1, .hst false 1, .bp, .stg, .ssv, .acc 0, .asv 0, .acc 1, .asv 1, .ob true 0, .ob true 1, .ob true 2, .ob true 3,
   .ob true 4, .ob true 5, .ob true 6, .ob true 7, .ob true 8, .ob false 2, .ob false 3, .ob false 4, .ob false 5, .ob false 6, .ob false 7,
   .ob false 9]
def endToks : List Tok :=
  [.acc 0, .acc 1, .asv 0, .asv 1, .bb, .bd, .cd false, .cd true, .fa false 7, .fa true 6, .hld true 0, .hld true 1, .inp false 0, .inp false 1,
   .inp true 0, .inp true 1, .lp false 4, .lp false 6, .lp false 7, .lp false 9, .lp true 5, .lp true 6, .lp true 7, .lp true 8, .od false 2,
   .od false 3, .od false 4, .od false 5, .od false 6, .od false 7, .od false 9, .od true 0, .od true 1, .od true 2, .od true 3, .od true 4,
   .od true 5, .od true 6, .od true 7, .od true 8, .rp false 11, .rp false 6, .rp false 8, .rp false 9, .rp true 10, .rp true 7, .rp true 8,
   .rp true 9, .rr false 4, .rr false 6, .rr false 7, .rr false 9, .rr true 5, .rr true 6, .rr true 7, .rr true 8, .sp false 11, .sp false 6,
   .sp false 8, .sp false 9, .sp true 10, .sp true 7, .sp true 8, .sp true 9, .ssv, .stg]

section
variable (c : Dev nD)

/-- One half of an input is brought to the stage, narrowed and put in its place. -/
theorem op_stage (d : Bool) (h : ℕ) {n : ℕ} {l : List Tok} {src : Memref sig .tc .hbm S1024x1024 .f32} {dst : Memref sig .tc .vmem S1024x1024 .f32} {q q' : DmaSem sig}
    (hs : src = inM d (hf h)) (hd : dst = stM) (hq : q = stgS) {sp sp' : Space} {s s' : Shape} {t t' : EltTy}
    {src' : Memref sig .tc sp s t} {dst' : Memref sig .tc sp' s' t'} (hq' : q' = stgS) (hN : dst'.view.dmaCredit = NS)
    (hlev : ∀ a ∈ dueA.drop n, 0 < ixA a ∧ ixA a < 64)
    {sh : Shape} {mr : Memref sig .tc .vmem sh .bf16} {r : Rect sh} {hr : ∀ a, r.stride a = 1}
    {w : (S1024x1024.Idx → Elt F .f32) → r.shape.Idx → Elt F .bf16} (ht : Rt m c (.hst d h) = anyT c (mr.slice r hr))
    (hw : Rt m c (.hld d h) = ownsT c (mr.slice r hr) fullShare (w (inpV m d (hf h) c)))
    (hok : okT [.inp d h, .stg, .ssv, .hst d h] l = true)
    {hsrc : src.view.WordExact} {hdst : dst.view.WordExact} {hsem : DmaTarget.Typed (nD := nD) (p := .tc) .hbm (.dma q) (.here dst)}
    {hsrc' : src'.view.WordExact} {hdst' : dst'.view.WordExact}
    {inb : ∀ a, (![0, 0] : Fin 2 → ℕ) a + S1024x1024.size a ≤ S1024x1024.size a}
    {hl : (stM : Memref sig .tc .vmem S1024x1024 .f32).view.LoadsAt (Rect.unit (s := S1024x1024) ![0, 0] S1024x1024.size inb)}
    {hl' : mr.view.LoadsAt r} {hx : (mr.access r).Stores Finset.univ} {hm : Finset.univ = Finset.univ ∨ ∀ a, r.stride a = 1}
    {Q : α → sProp 𝕄} {k : PUnit → Prog (TpuEff nD τ sig (Elt F) Λ₀ .tc) α}
    (hk : St m c n ([.hld d h, .stg, .inp d h, .ssv] ++ restT [.inp d h, .stg, .ssv, .hst d h] l) ⊢ WP c (k ⟨⟩) Q) :
    St m c n l ⊢ WP c (.op (.enqueueDma src (.here dst) (.dma q) hsrc hdst hsem) fun _ =>
      .op (.waitDma2 q' src' dst' hsrc' hdst') fun _ =>
      .op (.load stM (Rect.unit (s := S1024x1024) ![0, 0] S1024x1024.size inb).toLoadRect hl) fun v =>
      .op (.load mr r.toLoadRect hl') fun _ => .op (.store mr r (w v) Finset.univ hx hm) k) Q := by
  refine St.conv m [.inp d h, .stg, .ssv, .hst d h] [.inp d h, .stg, .ssv, .hst d h] hok .rfl ?_
  refine op_stage_enq m c d h hs hd hq (by simp [okT]) ?_
  refine op_stage_wait m c d h hq' hN hlev (by simp [okT, restT]) ?_
  refine op_stage_load m c d h (by simp [okT, restT]) ?_
  refine op_load_dead m c (.hst d h) ht (by simp [okT, restT]) fun _ => ?_
  refine op_store_half m c d h ht hw (by simp [okT, restT]) ?_
  simpa [restT] using hk

/-- One arrived block is multiplied: its slot is read, the accumulator's earlier copy is waited for, and the product starts towards the output. -/
theorem op_compute (d : Bool) (κ j : ℕ) (d' : Bool) (κ' : ℕ) (hκ : 2 ≤ κ) (hj : accK d κ = hf j) (hj' : accK d' κ' = hf j) {n : ℕ} {l : List Tok}
    {mr : Memref sig .tc .vmem S4x1024x1024 .bf16} (hmr : mr = bufM d) {off : Fin 3 → ℕ} (ho : off = ![(sl (κ + 2)).val, 0, 0])
    {inb : ∀ a, off a + S1x1024x1024.size a ≤ S4x1024x1024.size a}
    {hl : mr.view.LoadsAt (Rect.unit (s := S4x1024x1024) off S1x1024x1024.size inb)}
    {sp sp' : Space} {s s' : Shape} {t t' : EltTy} {q' : DmaSem sig} {src' : Memref sig .tc sp s t} {dst' : Memref sig .tc sp' s' t'}
    (hq' : q' = cpyS (hf j)) (hN : dst'.view.dmaCredit = NO) (hlev : ∀ a ∈ dueA.drop n, 0 < ixA a ∧ ixA a < 64)
    {hsrc' : src'.view.WordExact} {hdst' : dst'.view.WordExact}
    {inb2 : ∀ a, (![0, 0] : Fin 2 → ℕ) a + S1024x2048.size a ≤ S1024x2048.size a}
    {hl2 : (b16M : Memref sig .tc .vmem S1024x2048 .bf16).view.LoadsAt (Rect.unit (s := S1024x2048) ![0, 0] S1024x2048.size inb2)}
    {off3 : Fin 3 → ℕ} (ho3 : off3 = ![(hf j).val, 0, 0]) {inb3 : ∀ a, off3 a + S1x1024x2048.size a ≤ S2x1024x2048.size a}
    {hl3 : (cbufM : Memref sig .tc .vmem S2x1024x2048 .f32).view.LoadsAt (Rect.unit (s := S2x1024x2048) off3 S1x1024x2048.size inb3)}
    {w : (S1x1024x1024.Idx → Elt F .bf16) → (S1024x2048.Idx → Elt F .bf16) → S1x1024x2048.Idx → Elt F .f32}
    (hw : ∀ X b, w (shapeCast S1x1024x1024 X up1) b = accV (mm X b))
    {hx : ((cbufM : Memref sig .tc .vmem S2x1024x2048 .f32).access (Rect.unit (s := S2x1024x2048) off3 S1x1024x2048.size inb3)).Stores Finset.univ}
    {hm : Finset.univ = Finset.univ ∨ ∀ a, (Rect.unit (s := S2x1024x2048) off3 S1x1024x2048.size inb3).stride a = 1}
    {src : Memref sig .tc .vmem S1024x2048 .f32} {dst : Memref sig .tc .hbm S1024x2048 .f32} {q : DmaSem sig}
    (hs : src = accM (hf j)) (hd : dst = outM (rowB d κ c)) (hq : q = cpyS (hf j)) (hok : okT [.rr d κ, .fl d' κ', .bb, .ob d κ] l = true)
    {hsrc : src.view.WordExact} {hdst : dst.view.WordExact} {hsem : DmaTarget.Typed (nD := nD) (p := .tc) .vmem (.dma q) (.here dst)}
    {Q : α → sProp 𝕄} {k : PUnit → Prog (TpuEff nD τ sig (Elt F) Λ₀ .tc) α}
    (hk : St m c n ([.fl d κ, .bb, .od d' κ', .rr d κ] ++ restT [.rr d κ, .fl d' κ', .bb, .ob d κ] l) ⊢ WP c (k ⟨⟩) Q) :
    St m c n l ⊢ WP c (.op (.load mr (Rect.unit (s := S4x1024x1024) off S1x1024x1024.size inb).toLoadRect hl) fun v =>
      .op (.waitDma2 q' src' dst' hsrc' hdst') fun _ =>
      .op (.load b16M (Rect.unit (s := S1024x2048) ![0, 0] S1024x2048.size inb2).toLoadRect hl2) fun b =>
      .op (.load cbufM (Rect.unit (s := S2x1024x2048) off3 S1x1024x2048.size inb3).toLoadRect hl3) fun _ =>
      .op (.store cbufM (Rect.unit (s := S2x1024x2048) off3 S1x1024x2048.size inb3) (w v b) Finset.univ hx hm) fun _ =>
      .op (.enqueueDma src (.here dst) (.dma q) hsrc hdst hsem) k) Q := by
  refine St.conv m [.rr d κ, .fl d' κ', .bb, .ob d κ] [.rr d κ, .fl d' κ', .bb, .ob d κ] hok .rfl ?_
  refine op_load_slot m c d κ hκ hmr ho (by simp [okT]) ?_
  refine op_out_wait m c d' κ' j hj' hq' hN hlev (by simp [okT, restT]) ?_
  refine op_load_b m c (by simp [okT, restT]) ?_
  subst ho3
  refine op_load_dead m c (.acc j) (hr := fun _ => rfl) rfl (by simp [okT, restT]) fun _ => ?_
  refine op_store_acc m c d κ j hj rfl (hw _ _) (by simp [okT, restT]) ?_
  refine op_out_enq m c d κ j hj hs hd hq (by simp [okT, restT]) ?_
  simpa [restT] using hk
end

section
variable (c : Dev nD)

theorem run_end {n : ℕ} {l : List Tok} (hok : okT endToks l = true) (hr : restT endToks l = []) :
    St m c n l ⊢ WP c (.ret PUnit.unit : Prog (TpuEff nD τ sig (Elt F) Λ₀ .tc) PUnit) (fun _ => St m c n endToks) := by
  refine St.conv m endToks endToks hok .rfl ?_
  rw [hr, List.append_nil]
  exact fupd_intro

/-- The program of a device. -/
abbrev theBody : Prog (TpuEff nD τ sig (Elt F) Λ₀ .tc) PUnit := bodyAt0 (F := F) t0_0

set_option maxHeartbeats 40000000 in
set_option maxRecDepth 65536 in
/-- A device's whole run, one operation after the other. -/
theorem body_run : St m c 0 startToks ⊢ WP c (theBody (F := F)) (fun _ => St m c 22 endToks) := by
  show St m c 0 startToks ⊢ WP c (cc0_body _ _ _ _ _ _ _ _ _ _ _ _ _ _ _ _ _ _ _ _ _ _ _ _ _ _) _
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel]
  simp only [semSignalWord, semWaitWord, Prog.lift, Prog.bind_op, Prog.bind_ret, Prog.pure_eq_ret, Prog.bind_assoc, wp_deviceId]
  refine op_stage m c true 0 (by rfl) (by rfl) (by rfl) (by rfl) (by rfl) (by decide +kernel) (hr := fun _ => rfl) (by rfl) (by rfl) (by decide +kernel) ?_
  refine op_stage m c true 1 (by rfl) (by rfl) (by rfl) (by rfl) (by rfl) (by decide +kernel) (hr := fun _ => rfl) (by rfl) (by rfl) (by decide +kernel) ?_
  refine St.conv m [.hld true 0] [.lp true 0, .lp false 0, .rr true 0] (by decide +kernel) (own_split m c 0 (by decide)) ?_
  refine St.conv m [.hld true 1] [.lp true 1, .lp false 1, .rr true 1] (by decide +kernel) (own_split m c 1 (by decide)) ?_
  refine op_bar m c true (dev1_eq c) (by rfl) (by rfl) (by rfl) (by decide +kernel) ?_
  refine op_bar m c false (dev2_eq c) (by rfl) (by rfl) (by rfl) (by decide +kernel) ?_
  refine op_barwait m c (by rfl) (by rfl) (by decide +kernel) (by decide +kernel) ?_
  refine op_send m c true 0 (dev3_eq c) (by rfl) (by rfl) (by rfl) (by rfl) (by rfl) (by decide +kernel) (by decide +kernel) ?_
  refine op_send m c false 0 (dev4_eq c) (by rfl) (by rfl) (by rfl) (by rfl) (by rfl) (by decide +kernel) (by decide +kernel) ?_
  refine op_send m c true 1 (dev5_eq c) (by rfl) (by rfl) (by rfl) (by rfl) (by rfl) (by decide +kernel) (by decide +kernel) ?_
  refine op_send m c false 1 (dev6_eq c) (by rfl) (by rfl) (by rfl) (by rfl) (by rfl) (by decide +kernel) (by decide +kernel) ?_
  refine op_stage m c false 0 (by rfl) (by rfl) (by rfl) (by rfl) (by rfl) (by decide +kernel) (hr := fun _ => rfl) (by rfl) (by rfl) (by decide +kernel) ?_
  refine op_stage m c false 1 (by rfl) (by rfl) (by rfl) (by rfl) (by rfl) (by decide +kernel) (hr := fun _ => rfl) (by rfl) (by rfl) (by decide +kernel) ?_
  refine St.conv m [.hld false 0, .hld false 1] [.bb] (by decide +kernel) (b_join m c) ?_
  refine op_load_half m c 0 (by decide) (by rfl) (by decide +kernel) ?_
  refine op_load_b m c (by decide +kernel) ?_
  refine op_load_dead m c (.acc 0) (hr := fun _ => rfl) (by rfl) (by decide +kernel) fun _ => ?_
  refine op_store_acc m c true 0 0 (by rfl) (by rfl) (by rfl) (by decide +kernel) ?_
  refine op_out_enq m c true 0 0 (by rfl) (by rfl) (out_eq _ _ (off1_row c 0)) (by rfl) (by decide +kernel) ?_
  refine op_load_half m c 1 (by decide) (by rfl) (by decide +kernel) ?_
  refine op_load_b m c (by decide +kernel) ?_
  refine op_load_dead m c (.acc 1) (hr := fun _ => rfl) (by rfl) (by decide +kernel) fun _ => ?_
  refine op_store_acc m c true 1 1 (by rfl) (by rfl) (by rfl) (by decide +kernel) ?_
  refine op_out_enq m c true 1 1 (by rfl) (by rfl) (out_eq _ _ (off1_row c 1)) (by rfl) (by decide +kernel) ?_
  refine op_rwait m c true 0 (by rfl) (by rfl) (by decide +kernel) (by decide +kernel) (by decide +kernel) (by decide +kernel) (by decide +kernel) ?_
  refine op_swait m c true 0 (by rfl) (by rfl) (by decide +kernel) (by decide +kernel) (by decide +kernel) ?_
  refine op_send m c true 2 (dev7_eq c) (by rfl) (by rfl) (by rfl) (by rfl) (by rfl) (by decide +kernel) (by decide +kernel) ?_
  refine op_rwait m c false 0 (by rfl) (by rfl) (by decide +kernel) (by decide +kernel) (by decide +kernel) (by decide +kernel) (by decide +kernel) ?_
  refine op_swait m c false 0 (by rfl) (by rfl) (by decide +kernel) (by decide +kernel) (by decide +kernel) ?_
  refine op_send m c false 2 (dev8_eq c) (by rfl) (by rfl) (by rfl) (by rfl) (by rfl) (by decide +kernel) (by decide +kernel) ?_
  refine op_compute m c true 2 0 true 0 (by decide) (by rfl) (by rfl) (by rfl) (by rfl) (by rfl) (by rfl) (by decide +kernel) (by rfl) (fun X b => pay_slot X b) (by rfl) (out_eq _ _ (off2_row c 0)) (by rfl) (by decide +kernel) ?_
  refine op_compute m c false 2 1 true 1 (by decide) (by rfl) (by rfl) (by rfl) (by rfl) (by rfl) (by rfl) (by decide +kernel) (by rfl) (fun X b => pay_slot X b) (by rfl) (out_eq _ _ (off3_row c 0)) (by rfl) (by decide +kernel) ?_
  refine op_rwait m c true 1 (by rfl) (by rfl) (by decide +kernel) (by decide +kernel) (by decide +kernel) (by decide +kernel) (by decide +kernel) ?_
  refine op_swait m c true 1 (by rfl) (by rfl) (by decide +kernel) (by decide +kernel) (by decide +kernel) ?_
  refine op_send m c true 3 (dev9_eq c) (by rfl) (by rfl) (by rfl) (by rfl) (by rfl) (by decide +kernel) (by decide +kernel) ?_
  refine op_rwait m c false 1 (by rfl) (by rfl) (by decide +kernel) (by decide +kernel) (by decide +kernel) (by decide +kernel) (by decide +kernel) ?_
  refine op_swait m c false 1 (by rfl) (by rfl) (by decide +kernel) (by decide +kernel) (by decide +kernel) ?_
  refine op_send m c false 3 (dev10_eq c) (by rfl) (by rfl) (by rfl) (by rfl) (by rfl) (by decide +kernel) (by decide +kernel) ?_
  refine op_compute m c true 3 0 true 2 (by decide) (by rfl) (by rfl) (by rfl) (by rfl) (by rfl) (by rfl) (by decide +kernel) (by rfl) (fun X b => pay_slot X b) (by rfl) (out_eq _ _ (off2_row c 1)) (by rfl) (by decide +kernel) ?_
  refine op_compute m c false 3 1 false 2 (by decide) (by rfl) (by rfl) (by rfl) (by rfl) (by rfl) (by rfl) (by decide +kernel) (by rfl) (fun X b => pay_slot X b) (by rfl) (out_eq _ _ (off3_row c 1)) (by rfl) (by decide +kernel) ?_
  refine op_rwait m c true 2 (by rfl) (by rfl) (by decide +kernel) (by decide +kernel) (by decide +kernel) (by decide +kernel) (by decide +kernel) ?_
  refine op_swait m c true 2 (by rfl) (by rfl) (by decide +kernel) (by decide +kernel) (by decide +kernel) ?_
  refine op_credit m c true 4 3 (dev11_eq c) (by rfl) (by rfl) (by rfl) (by decide +kernel) (by decide +kernel) (by decide +kernel) (by decide +kernel) (by decide +kernel) (by decide +kernel) ?_
  refine op_cwait m c true 4 0 (by rfl) (by rfl) (by decide +kernel) (by decide +kernel) (by decide +kernel) (by decide +kernel) (by decide +kernel) (by decide +kernel) (by decide +kernel) ?_
  refine op_send m c true 4 (dev12_eq c) (by rfl) (by rfl) (by rfl) (by rfl) (by rfl) (by decide +kernel) (by decide +kernel) ?_
  refine op_rwait m c false 2 (by rfl) (by rfl) (by decide +kernel) (by decide +kernel) (by decide +kernel) (by decide +kernel) (by decide +kernel) ?_
  refine op_swait m c false 2 (by rfl) (by rfl) (by decide +kernel) (by decide +kernel) (by decide +kernel) ?_
  refine op_credit m c false 4 3 (dev13_eq c) (by rfl) (by rfl) (by rfl) (by decide +kernel) (by decide +kernel) (by decide +kernel) (by decide +kernel) (by decide +kernel) (by decide +kernel) ?_
  refine op_cwait m c false 4 0 (by rfl) (by rfl) (by decide +kernel) (by decide +kernel) (by decide +kernel) (by decide +kernel) (by decide +kernel) (by decide +kernel) (by decide +kernel) ?_
  refine op_send m c false 4 (dev14_eq c) (by rfl) (by rfl) (by rfl) (by rfl) (by rfl) (by decide +kernel) (by decide +kernel) ?_
  refine op_compute m c true 4 0 true 3 (by decide) (by rfl) (by rfl) (by rfl) (by rfl) (by rfl) (by rfl) (by decide +kernel) (by rfl) (fun X b => pay_slot X b) (by rfl) (out_eq _ _ (off2_row c 2)) (by rfl) (by decide +kernel) ?_
  refine op_compute m c false 4 1 false 3 (by decide) (by rfl) (by rfl) (by rfl) (by rfl) (by rfl) (by rfl) (by decide +kernel) (by rfl) (fun X b => pay_slot X b) (by rfl) (out_eq _ _ (off3_row c 2)) (by rfl) (by decide +kernel) ?_
  refine op_rwait m c true 3 (by rfl) (by rfl) (by decide +kernel) (by decide +kernel) (by decide +kernel) (by decide +kernel) (by decide +kernel) ?_
  refine op_swait m c true 3 (by rfl) (by rfl) (by decide +kernel) (by decide +kernel) (by decide +kernel) ?_
  refine op_credit m c true 5 4 (dev15_eq c) (by rfl) (by rfl) (by rfl) (by decide +kernel) (by decide +kernel) (by decide +kernel) (by decide +kernel) (by decide +kernel) (by decide +kernel) ?_
  refine op_cwait m c true 5 1 (by rfl) (by rfl) (by decide +kernel) (by decide +kernel) (by decide +kernel) (by decide +kernel) (by decide +kernel) (by decide +kernel) (by decide +kernel) ?_
  refine op_send m c true 5 (dev16_eq c) (by rfl) (by rfl) (by rfl) (by rfl) (by rfl) (by decide +kernel) (by decide +kernel) ?_
  refine op_rwait m c false 3 (by rfl) (by rfl) (by decide +kernel) (by decide +kernel) (by decide +kernel) (by decide +kernel) (by decide +kernel) ?_
  refine op_swait m c false 3 (by rfl) (by rfl) (by decide +kernel) (by decide +kernel) (by decide +kernel) ?_
  refine op_credit m c false 5 4 (dev17_eq c) (by rfl) (by rfl) (by rfl) (by decide +kernel) (by decide +kernel) (by decide +kernel) (by decide +kernel) (by decide +kernel) (by decide +kernel) ?_
  refine op_cwait m c false 5 1 (by rfl) (by rfl) (by decide +kernel) (by decide +kernel) (by decide +kernel) (by decide +kernel) (by decide +kernel) (by decide +kernel) (by decide +kernel) ?_
  refine op_send m c false 5 (dev18_eq c) (by rfl) (by rfl) (by rfl) (by rfl) (by rfl) (by decide +kernel) (by decide +kernel) ?_
  refine op_compute m c true 5 0 true 4 (by decide) (by rfl) (by rfl) (by rfl) (by rfl) (by rfl) (by rfl) (by decide +kernel) (by rfl) (fun X b => pay_slot X b) (by rfl) (out_eq _ _ (off2_row c 3)) (by rfl) (by decide +kernel) ?_
  refine op_compute m c false 5 1 false 4 (by decide) (by rfl) (by rfl) (by rfl) (by rfl) (by rfl) (by rfl) (by decide +kernel) (by rfl) (fun X b => pay_slot X b) (by rfl) (out_eq _ _ (off3_row c 3)) (by rfl) (by decide +kernel) ?_
  refine op_rwait m c true 4 (by rfl) (by rfl) (by decide +kernel) (by decide +kernel) (by decide +kernel) (by decide +kernel) (by decide +kernel) ?_
  refine op_swait m c true 4 (by rfl) (by rfl) (by decide +kernel) (by decide +kernel) (by decide +kernel) ?_
  refine op_credit m c true 6 5 (dev19_eq c) (by rfl) (by rfl) (by rfl) (by decide +kernel) (by decide +kernel) (by decide +kernel) (by decide +kernel) (by decide +kernel) (by decide +kernel) ?_
  refine op_cwait_last m c true 6 (by rfl) (by rfl) (by decide +kernel) (by decide +kernel) (by decide +kernel) (by decide +kernel) (by decide +kernel) (by decide +kernel) ?_
  refine op_send m c true 6 (dev20_eq c) (by rfl) (by rfl) (by rfl) (by rfl) (by rfl) (by decide +kernel) (by decide +kernel) ?_
  refine op_rwait m c false 4 (by rfl) (by rfl) (by decide +kernel) (by decide +kernel) (by decide +kernel) (by decide +kernel) (by decide +kernel) ?_
  refine op_swait m c false 4 (by rfl) (by rfl) (by decide +kernel) (by decide +kernel) (by decide +kernel) ?_
  refine op_compute m c true 6 0 true 5 (by decide) (by rfl) (by rfl) (by rfl) (by rfl) (by rfl) (by rfl) (by decide +kernel) (by rfl) (fun X b => pay_slot X b) (by rfl) (out_eq _ _ (off2_row c 4)) (by rfl) (by decide +kernel) ?_
  refine op_compute m c false 6 1 false 5 (by decide) (by rfl) (by rfl) (by rfl) (by rfl) (by rfl) (by rfl) (by decide +kernel) (by rfl) (fun X b => pay_slot X b) (by rfl) (out_eq _ _ (off3_row c 4)) (by rfl) (by decide +kernel) ?_
  refine op_rwait m c true 5 (by rfl) (by rfl) (by decide +kernel) (by decide +kernel) (by decide +kernel) (by decide +kernel) (by decide +kernel) ?_
  refine op_swait m c true 5 (by rfl) (by rfl) (by decide +kernel) (by decide +kernel) (by decide +kernel) ?_
  refine op_rwait m c false 5 (by rfl) (by rfl) (by decide +kernel) (by decide +kernel) (by decide +kernel) (by decide +kernel) (by decide +kernel) ?_
  refine op_swait m c false 5 (by rfl) (by rfl) (by decide +kernel) (by decide +kernel) (by decide +kernel) ?_
  refine op_credit m c false 7 5 (dev21_eq c) (by rfl) (by rfl) (by rfl) (by decide +kernel) (by decide +kernel) (by decide +kernel) (by decide +kernel) (by decide +kernel) (by decide +kernel) ?_
  refine op_cwait_last m c false 7 (by rfl) (by rfl) (by decide +kernel) (by decide +kernel) (by decide +kernel) (by decide +kernel) (by decide +kernel) (by decide +kernel) ?_
  refine op_send m c false 7 (dev22_eq c) (by rfl) (by rfl) (by rfl) (by rfl) (by rfl) (by decide +kernel) (by decide +kernel) ?_
  refine op_compute m c true 7 0 true 6 (by decide) (by rfl) (by rfl) (by rfl) (by rfl) (by rfl) (by rfl) (by decide +kernel) (by rfl) (fun X b => pay_slot X b) (by rfl) (out_eq _ _ (off2_row c 5)) (by rfl) (by decide +kernel) ?_
  refine op_compute m c false 7 1 false 6 (by decide) (by rfl) (by rfl) (by rfl) (by rfl) (by rfl) (by rfl) (by decide +kernel) (by rfl) (fun X b => pay_slot X b) (by rfl) (out_eq _ _ (off3_row c 5)) (by rfl) (by decide +kernel) ?_
  refine op_rwait m c true 6 (by rfl) (by rfl) (by decide +kernel) (by decide +kernel) (by decide +kernel) (by decide +kernel) (by decide +kernel) ?_
  refine op_swait m c true 6 (by rfl) (by rfl) (by decide +kernel) (by decide +kernel) (by decide +kernel) ?_
  refine op_rwait m c false 7 (by rfl) (by rfl) (by decide +kernel) (by decide +kernel) (by decide +kernel) (by decide +kernel) (by decide +kernel) ?_
  refine op_swait m c false 7 (by rfl) (by rfl) (by decide +kernel) (by decide +kernel) (by decide +kernel) ?_
  refine op_compute m c true 8 0 true 7 (by decide) (by rfl) (by rfl) (by rfl) (by rfl) (by rfl) (by rfl) (by decide +kernel) (by rfl) (fun X b => pay_slot X b) (by rfl) (out_eq _ _ (off2_row c 6)) (by rfl) (by decide +kernel) ?_
  refine op_compute m c false 9 1 false 7 (by decide) (by rfl) (by rfl) (by rfl) (by rfl) (by rfl) (by rfl) (by decide +kernel) (by rfl) (fun X b => pay_slot X b) (by rfl) (out_eq _ _ (off3_row c 6)) (by rfl) (by decide +kernel) ?_
  refine op_out_wait m c true 8 0 (by rfl) (by rfl) (by rfl) (by decide +kernel) (by decide +kernel) ?_
  refine op_out_wait m c false 9 1 (by rfl) (by rfl) (by rfl) (by decide +kernel) (by decide +kernel) ?_
  refine St.conv m [.lp true 0, .lp false 0, .rr true 0] [.hld true 0] (by decide +kernel) (own_join m c 0 (by decide)) ?_
  refine St.conv m [.lp true 1, .lp false 1, .rr true 1] [.hld true 1] (by decide +kernel) (own_join m c 1 (by decide)) ?_
  exact run_end m c (by decide +kernel) (by decide +kernel)
end
end Cert.RingMM
-- ==== Proof.Deal.lean ====
module

public import proofs.«01_k».proof.Proof.Body

@[expose] public section

noncomputable section

/-! The ghost state made at launch, and how it is dealt to the devices. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Sums over lists of tokens, and around the ring -/

/-- The separating product over a list. -/
def sumL {I : Type} (l : List I) (Φ : I → sProp 𝕄) : sProp 𝕄 := l.foldr (fun i P => iprop(Φ i ∗ P)) iprop(emp)

theorem toks_sum (c : Dev nD) (l : List Tok) : toks m c l = sumL l (Rt m c) := by
  induction l with
  | nil => rfl
  | cons a l ih => show iprop(Rt m c a ∗ toks m c l) = _; rw [ih]; rfl

omit [FloatOps F] in
theorem sum_append {I : Type} (l l' : List I) (Φ : I → sProp 𝕄) : iprop(sumL l Φ ∗ sumL l' Φ) ⊣⊢ sumL (l ++ l') Φ := by
  induction l with
  | nil => exact emp_sep
  | cons a l ih => exact sep_assoc.trans (sep_congr_right ih)

omit [FloatOps F] in
theorem sum_perm {I : Type} {l l' : List I} (h : l.Perm l') (Φ : I → sProp 𝕄) : sumL l Φ ⊢ sumL l' Φ := by
  induction h with
  | nil => exact .rfl
  | cons a _ ih => exact sep_mono_right ih
  | swap a b l =>
    show iprop(Φ b ∗ Φ a ∗ sumL l Φ) ⊢ iprop(Φ a ∗ Φ b ∗ sumL l Φ)
    iintro ⟨H1, H2, H⟩
    isplitl [H2]; · iexact H2
    isplitl [H1] <;> iassumption
  | trans _ _ ih ih' => exact ih.trans ih'

omit [FloatOps F] in
theorem sum_map {I J : Type} (l : List I) (f : I → J) (Φ : J → sProp 𝕄) : sumL (l.map f) Φ = sumL l fun i => Φ (f i) := by
  unfold sumL; rw [List.foldr_map]

omit [FloatOps F] in
theorem sum_mono {I : Type} (l : List I) {Φ Ψ : I → sProp 𝕄} (h : ∀ i ∈ l, Φ i ⊢ Ψ i) : sumL l Φ ⊢ sumL l Ψ := by
  induction l with
  | nil => exact .rfl
  | cons a l ih => exact BIClass.sep_mono (h a List.mem_cons_self) (ih fun i hi => h i (List.mem_cons_of_mem _ hi))

omit [FloatOps F] in
theorem sum_sep {I : Type} (l : List I) (Φ Ψ : I → sProp 𝕄) : iprop(sumL l Φ ∗ sumL l Ψ) ⊢ sumL l fun i => iprop(Φ i ∗ Ψ i) := by
  induction l with
  | nil => exact BIClass.emp_sep.1
  | cons a l ih =>
    show iprop((Φ a ∗ sumL l Φ) ∗ (Ψ a ∗ sumL l Ψ)) ⊢ iprop((Φ a ∗ Ψ a) ∗ sumL l fun i => iprop(Φ i ∗ Ψ i))
    iintro ⟨⟨H1, H2⟩, H3, H4⟩
    isplitl [H1 H3]; · isplitl [H1] <;> iassumption
    iapply ih; isplitl [H2] <;> iassumption

omit [FloatOps F] in
theorem sum_set {I : Type} [DecidableEq I] (l : List I) (hn : l.Nodup) (Φ : I → sProp 𝕄) : bigSep l.toFinset Φ = sumL l Φ := by
  induction l with
  | nil => exact bigSep_empty
  | cons a l ih =>
    have hn' := List.nodup_cons.mp hn
    rw [List.toFinset_cons, bs_insert (by rw [List.mem_toFinset]; exact hn'.1), ih hn'.2]; rfl

omit [FloatOps F] in
/-- The product over a whole index type as the product over a list meeting every index once. -/
theorem sum_univ {I K : Type} [Fintype K] [DecidableEq K] (l : List I) (g : I → K) (hn : (l.map g).Nodup) (hc : (l.map g).toFinset = Finset.univ)
    (Φ : K → sProp 𝕄) : bigSep Finset.univ Φ = sumL l fun i => Φ (g i) := by
  rw [← hc, sum_set _ hn, sum_map]

omit [FloatOps F] in
theorem bs_sub {I : Type} [DecidableEq I] (S : Finset I) (Φ : I → sProp 𝕄) : bigSep Finset.univ (fun x : S => Φ x.1) = bigSep S Φ := by
  have h : (Finset.univ : Finset S).map (Function.Embedding.subtype (· ∈ S)) = S := by rw [Finset.univ_eq_attach]; exact Finset.attach_map_val
  conv_rhs => rw [← h, bigSep_map]
  rfl

omit [FloatOps F] in
/-- Every device hands each of its resources to the device that will use it. -/
theorem deal {I : Type} [Fintype I] (D : Dev nD → I → sProp 𝕄) (φ : I → Dev nD ≃ Dev nD) :
    (bigSep Finset.univ fun c => bigSep Finset.univ (D c)) = bigSep Finset.univ fun c => bigSep Finset.univ fun i => D (φ i c) i := by
  rw [bigSep_univ_comm D, bigSep_univ_comm (fun c i => D (φ i c) i)]
  exact bigSep_congr fun i _ => bigSep_univ_equiv (φ i) _

omit [FloatOps F] in
theorem fin19 (Φ : Fin 19 → sProp 𝕄) : bigSep Finset.univ Φ = iprop(Φ 18 ∗ bigSep Finset.univ fun k : Fin 18 => Φ k.castSucc) := by
  rw [bs_erase (Finset.mem_univ (18 : Fin 19)), show (Finset.univ : Finset (Fin 19)).erase 18 = Finset.univ.map Fin.castSuccEmb by decide, bigSep_map]
  rfl

/-! ## What is minted: cells, duties, slots -/

def rndA : Act → ℕ
  | (1, _, e) => e / 4
  | _ => 0
def dutA : Act → ℕ
  | (0, d, _) => bif d then 0 else 1
  | (1, _, _) => 0
  | (_, _, w) => w

/-- The half blocks a device sends. -/
def sendL : List (Bool × ℕ) := [0, 1, 2, 3, 4, 5, 6].map (true, ·) ++ [0, 1, 2, 3, 4, 5, 7].map (false, ·)
/-- The duties on a device's own cells: what others pay there, and its own sends. -/
abbrev Mint : Type := Act ⊕ (Bool × ℕ)
def mintL : List Mint := dueA.map .inl ++ sendL.map .inr
def mintK : Mint → SemLoc sig × ℕ × ℕ
  | .inl a => (semA a, rndA a, dutA a)
  | .inr x => (.dma (sndS x.1 x.2), x.2 / 4, 0)
/-- Who uses the duty. -/
def mintP : Mint → Dev nD ≃ Dev nD
  | .inl (1, d, _) => ring d
  | .inl (_, d, _) => (ring d).symm
  | .inr _ => Equiv.refl _

theorem mint_inj : ∀ x ∈ mintL, ∀ y ∈ mintL, mintK x = mintK y → x = y := by decide +kernel

def cellEmb : Dev nD × Fin 19 ↪ GSem nD τ sig := ⟨cellAt, by
  rintro ⟨c, k⟩ ⟨c', k'⟩ h
  have h1 : c = c' := congrArg (fun g : GSem nD τ sig => g.1.1) h
  have h2 : osem k = osem k' := congrArg Prod.snd h
  have h3 : ∀ k k' : Fin 19, osem k = osem k' → k = k' := by decide +kernel
  rw [h1, h3 k k' h2]⟩
def mintEmb : Dev nD × {x // x ∈ mintL.toFinset} ↪ GSem nD τ sig × ℕ × ℕ := ⟨fun p => (((p.1 : Thread nD τ), (mintK p.2.1).1), (mintK p.2.1).2), by
  rintro ⟨c, x, hx⟩ ⟨c', y, hy⟩ h
  have h1 : c = c' := congrArg (fun g : GSem nD τ sig × ℕ × ℕ => g.1.1.1) h
  have h2 : (mintK x).1 = (mintK y).1 := congrArg (fun g : GSem nD τ sig × ℕ × ℕ => g.1.2) h
  have h3 : (mintK x).2 = (mintK y).2 := congrArg (fun g : GSem nD τ sig × ℕ × ℕ => g.2) h
  have h4 : x = y := mint_inj x (List.mem_toFinset.mp hx) y (List.mem_toFinset.mp hy) (Prod.ext h2 h3)
  subst h1 h4; rfl⟩
def keyEmb : Dev nD × (Bool × Fin 8) ↪ Key := ⟨fun p => (p.1, p.2.1, p.2.2.val), by
  rintro ⟨c, d, w⟩ ⟨c', d', w'⟩ h
  obtain ⟨h1, h2⟩ := Prod.mk.inj h
  obtain ⟨h2, h3⟩ := Prod.mk.inj h2
  have h4 : w = w' := Fin.ext h3
  subst h1 h2 h4; rfl⟩
theorem keysAll_eq : keysAll = Finset.univ.map keyEmb := by
  ext ⟨c, d, w⟩
  simp only [keysAll, Finset.mem_product, Finset.mem_univ, true_and, Finset.mem_range, Finset.mem_map, keyEmb, Function.Embedding.coeFn_mk, Prod.mk.injEq, Prod.exists]
  constructor
  · intro h; exact ⟨c, d, ⟨w, h⟩, rfl, rfl, rfl⟩
  · rintro ⟨c', d', w', -, -, rfl⟩; exact w'.isLt

def u₀ : UU :=
  (initOf (Pipeline.cells cfgs cellOf_inj) (Pipeline.launchToks cfgs cellOf_inj),
    (initOf (Finset.univ.map cellEmb) (Finset.univ.map mintEmb), (Release.initSlots keysAll 1, 1)))

/-- A duty's token, a slot's reader and its writer. -/
def mintT (c : Dev nD) (x : Mint) : sProp 𝕄 := dutyTok (ER (F := F)) ((c : Thread nD τ), (mintK x).1) (mintK x).2.1 (mintK x).2.2
def readT (c : Dev nD) (p : Bool × Fin 8) : sProp 𝕄 := Release.readerAt (ES (F := F)) ((c, p.1, p.2.val) : Key) 0
def writT (c : Dev nD) (p : Bool × Fin 8) : sProp 𝕄 := Release.writeTok (ES (F := F)) ((c, p.1, p.2.val) : Key) 1

/-- What a device gets of the launch element. -/
def G (c : Dev nD) : sProp 𝕄 :=
  iprop((bigSep Finset.univ fun k : Fin 19 => roundState ER (Rd m) (cellAt (c, k)) 0)
    ∗ (bigSep Finset.univ fun k : Fin 19 => reached ER (cellAt (c, k)) 0)
    ∗ (bigSep Finset.univ fun k : Fin 19 => atPos ER (cellAt (c, k)) 0 ∅ 0)
    ∗ (bigSep Finset.univ fun x : {x // x ∈ mintL.toFinset} => mintT c x.1)
    ∗ (bigSep Finset.univ fun p : Bool × Fin 8 => sInv (F := F) (c, p.1, p.2.val))
    ∗ (bigSep Finset.univ (readT (F := F) c)) ∗ bigSep Finset.univ (writT (F := F) c))

omit [FloatOps F] in
theorem bs_emb {I J : Type} [Fintype I] (e : Dev nD × I ↪ J) (Φ : J → sProp 𝕄) (Ψ : Dev nD → I → sProp 𝕄) (h : ∀ c i, Φ (e (c, i)) ⊢ Ψ c i) :
    bigSep (Finset.univ.map e) Φ ⊢ bigSep Finset.univ fun c => bigSep Finset.univ (Ψ c) := by
  rw [bigSep_map, bigSep_univ_prod]
  exact bigSep_mono fun c _ => bigSep_mono fun i _ => h c i

omit [FloatOps F] in
theorem writers_eq : (bigSep (Finset.univ.map keyEmb ×ˢ Finset.range 1) fun x => Release.writeTok (ES (F := F)) x.1 (x.2 + 1) : sProp 𝕄)
    = bigSep (Finset.univ.map keyEmb) fun k => Release.writeTok (ES (F := F)) k 1 := by
  have h : (Finset.univ.map keyEmb ×ˢ Finset.range 1) = (Finset.univ.map keyEmb).map ⟨fun k => (k, 0), fun _ _ h => (Prod.mk.inj h).1⟩ := by
    ext ⟨k, n⟩
    simp only [Finset.mem_product, Finset.mem_range, Nat.lt_one_iff, Finset.mem_map, Function.Embedding.coeFn_mk, Prod.mk.injEq]
    constructor
    · rintro ⟨h, rfl⟩; exact ⟨k, h, rfl⟩
    · rintro ⟨k', h, h1⟩; obtain ⟨h1, h2⟩ := Prod.mk.inj h1; exact ⟨h1 ▸ h, h2.symm⟩
  rw [h, bigSep_map]
  rfl

theorem fund : BI.own ((embR : Emb (UB × (US × Counters)) (MT nD τ sig ℕ (Elt F) ℕ UU ℕ)) u₀.2) ⊢ (|={Set.univ}=> bigSep Finset.univ (G m) : sProp 𝕄) := by
  unfold u₀
  iintro H
  ihave H := (own_pair_emb embR _ _) $$ H
  icases H with ⟨HR, H⟩
  ihave H := (own_pair_emb _ _ _) $$ H
  icases H with ⟨HS, -⟩
  imod (Rounds.fund (ER (F := F)) (Rd m) (Finset.univ.map cellEmb) (Finset.univ.map mintEmb)) $$ HR with ⟨Hst, Hr, Hat, Htok⟩
  imod (Release.slots_init (ES (F := F)) keysAll 1 (keySlot (F := F))) $$ HS with ⟨%ιs, -, Hs, Hrd, Hwr⟩
  imodintro
  unfold G
  rw [keysAll_eq]
  simp only [bigSep_sep']
  isplitl [Hst]
  · iapply (bs_emb cellEmb (fun g => roundState ER (Rd m) g 0) (fun c k => roundState ER (Rd m) (cellAt (c, k)) 0) fun _ _ => .rfl); iexact Hst
  isplitl [Hr]
  · iapply (bs_emb cellEmb (fun g => reached (ER (F := F)) g 0) (fun c k => reached ER (cellAt (c, k)) 0) fun _ _ => .rfl); iexact Hr
  isplitl [Hat]
  · iapply (bs_emb cellEmb (fun g => atPos (ER (F := F)) g 0 ∅ 0) (fun c k => atPos ER (cellAt (c, k)) 0 ∅ 0) fun _ _ => .rfl); iexact Hat
  isplitl [Htok]
  · iapply (bs_emb mintEmb (fun x => dutyTok (ER (F := F)) x.1 x.2.1 x.2.2) (fun c x => mintT c x.1) fun _ _ => .rfl); iexact Htok
  isplitl [Hs]
  · iapply (bs_emb keyEmb (fun k => Release.slotInv (ES (F := F)) (ιs k) k (keySlot (F := F) k)) (fun c p => sInv (F := F) (c, p.1, p.2.val))
      fun c p => show _ ⊢ sInv (F := F) (c, p.1, p.2.val) by unfold sInv; iintro H; iexists (ιs (c, p.1, p.2.val)); iexact H)
    iexact Hs
  isplitl [Hrd]
  · iapply (bs_emb keyEmb (fun k => Release.readerAt (ES (F := F)) k 0) (readT (F := F)) fun _ _ => .rfl); iexact Hrd
  iapply (bs_emb keyEmb (fun k => Release.writeTok (ES (F := F)) k 1) (writT (F := F)) fun _ _ => .rfl)
  iapply (Entails.of_eq (writers_eq (F := F)))
  iexact Hwr

end Cert.RingMM
-- ==== Proof.Start.lean ====
module

public import proofs.«01_k».proof.Proof.Deal

@[expose] public section

noncomputable section

/-! What each device starts with: the cells' invariants, its positions, its duties, its credit. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The launch's semaphores, and what each device receives -/

/-- The kernel's own semaphores: the cells of its rounds except the barrier's, and the three that stay its own. -/
def ownSem : Fin 18 ⊕ Fin 3 → SemLoc sig
  | .inl k => osem k.castSucc
  | .inr 0 => .dma stgS
  | .inr 1 => .dma (cpyS 0)
  | .inr 2 => .dma (cpyS 1)

theorem ownSemFacts : Pipeline.OwnSemFacts cfg0.spec ownSem := by decide +kernel

omit [FloatOps F] in
theorem ownSems0_eq (c : Dev nD) : (Pipeline.ownSems0 (Ix := ℕ) (Name := ℕ) (U := UU) (Lvl := ℕ) (Val := Elt F) (τ := τ) ownSem c : sProp 𝕄)
    = iprop((bigSep Finset.univ fun k : Fin 18 => semVal (cellAt (c, k.castSucc)) 0)
      ∗ semVal ((c : Thread nD τ), .dma stgS) 0 ∗ semVal ((c : Thread nD τ), .dma (cpyS 0)) 0 ∗ semVal ((c : Thread nD τ), .dma (cpyS 1)) 0) := by
  unfold Pipeline.ownSems0
  rw [bigSep_univ_sum]
  congr 1
  rw [bigSep_eq_bigSepL_of_eq [0, 1, 2] (by decide) (by decide)]; rfl
omit [FloatOps F] in
theorem unscopedSems0_eq (c : Dev nD) : (unscopedSems0 c : sProp 𝕄) = semVal (cellAt (c, 18)) 0 := by
  unfold unscopedSems0; rw [bigSep_eq_bigSepL_of_eq [SemLoc.reg barS] (by decide) (by decide)]; rfl

def semsT (c : Dev nD) : sProp 𝕄 :=
  iprop(semVal ((c : Thread nD τ), .dma stgS) 0 ∗ semVal ((c : Thread nD τ), .dma (cpyS 0)) 0 ∗ semVal ((c : Thread nD τ), .dma (cpyS 1)) 0)

/-- A device's cells with counters at zero, and its other own semaphores. -/
theorem sems_eq (c : Dev nD) : iprop(Pipeline.ownSems0 (Ix := ℕ) (Name := ℕ) (U := UU) (Lvl := ℕ) (Val := Elt F) (τ := τ) ownSem c ∗ unscopedSems0 c)
    ⊣⊢ (iprop((bigSep Finset.univ fun k : Fin 19 => semVal (cellAt (c, k)) 0) ∗ semsT c) : sProp 𝕄) := by
  rw [ownSems0_eq, unscopedSems0_eq, fin19]
  unfold semsT
  constructor
  · iintro ⟨⟨H1, H2⟩, H3⟩
    isplitl [H1 H3]; · isplitl [H3] <;> iassumption
    iexact H2
  · iintro ⟨⟨H3, H1⟩, H2⟩
    isplitl [H1 H2]; · isplitl [H1] <;> iassumption
    iexact H3

/-- What every device may read, before the levels. -/
def Ctx0 : sProp 𝕄 :=
  iprop((bigSep Finset.univ fun x => cInv m (cellAt x)) ∗ (bigSep Finset.univ fun x => reached (ER (F := F)) (cellAt x) 0)
    ∗ bigSep keysAll fun k => sInv (F := F) k)
instance Ctx0_persistent : BI.Persistent (Ctx0 m) := by unfold Ctx0; infer_instance

/-- What only one device holds. -/
def lin (c : Dev nD) : sProp 𝕄 :=
  iprop(semsT c ∗ (bigSep Finset.univ fun k : Fin 19 => atPos (ER (F := F)) (cellAt (c, k)) 0 ∅ 0)
    ∗ (bigSep Finset.univ fun x : {x // x ∈ mintL.toFinset} => mintT (F := F) (mintP x.1 c) x.1)
    ∗ (bigSep Finset.univ (readT (F := F) c)) ∗ bigSep Finset.univ fun p => writT (F := F) (ring p.1 c) p)
def G' (c : Dev nD) : sProp 𝕄 := iprop(Ctx0 m ∗ lin c)

theorem core_alloc (c : Dev nD) :
    iprop(Pipeline.ownSems0 (Ix := ℕ) (Name := ℕ) (U := UU) (Lvl := ℕ) (Val := Elt F) (τ := τ) ownSem c ∗ unscopedSems0 c ∗ G m c)
      ⊢ |={Set.univ}=> iprop((bigSep Finset.univ fun k => cInv m (cellAt (c, k))) ∗ (bigSep Finset.univ fun k : Fin 19 => reached ER (cellAt (c, k)) 0)
          ∗ (bigSep Finset.univ fun p : Bool × Fin 8 => sInv (F := F) (c, p.1, p.2.val))
          ∗ semsT c ∗ (bigSep Finset.univ fun k : Fin 19 => atPos ER (cellAt (c, k)) 0 ∅ 0)
          ∗ (bigSep Finset.univ fun x : {x // x ∈ mintL.toFinset} => mintT c x.1)
          ∗ (bigSep Finset.univ (readT (F := F) c)) ∗ bigSep Finset.univ (writT (F := F) c)) := by
  unfold G
  iintro ⟨Hos, Hus, Hst, Hr, Hat, Hm, Hs, Hrd, Hwr⟩
  ihave Hv := (sems_eq (F := F) c).1 $$ [Hos Hus]
  · isplitl [Hos] <;> iassumption
  icases Hv with ⟨Hv, Ht⟩
  imod (show iprop((bigSep Finset.univ fun k : Fin 19 => semVal (cellAt (c, k)) 0) ∗ bigSep Finset.univ fun k : Fin 19 => roundState ER (Rd m) (cellAt (c, k)) 0)
      ⊢ (|={Set.univ}=> bigSep Finset.univ fun k => cInv m (cellAt (c, k)) : sProp 𝕄) from by
        rw [← bigSep_sep']
        exact (bigSep_mono fun k _ => (Rounds.body_intro ER (Rd m) (cellAt (c, k))).trans (by unfold cInv; exact inv_alloc)).trans (bigSep_fupd _ _)) $$ [Hv Hst] with Hinv
  · isplitl [Hv] <;> iassumption
  imodintro
  isplitl [Hinv]; · iexact Hinv
  isplitl [Hr]; · iexact Hr
  isplitl [Hs]; · iexact Hs
  isplitl [Ht]; · iexact Ht
  isplitl [Hat]; · iexact Hat
  isplitl [Hm]; · iexact Hm
  isplitl [Hrd]; · iexact Hrd
  iexact Hwr

theorem regroup : (bigSep Finset.univ fun c : Dev nD => iprop((bigSep Finset.univ fun k => cInv m (cellAt (c, k)))
          ∗ (bigSep Finset.univ fun k : Fin 19 => reached ER (cellAt (c, k)) 0)
          ∗ (bigSep Finset.univ fun p : Bool × Fin 8 => sInv (F := F) (c, p.1, p.2.val))
          ∗ semsT c ∗ (bigSep Finset.univ fun k : Fin 19 => atPos ER (cellAt (c, k)) 0 ∅ 0)
          ∗ (bigSep Finset.univ fun x : {x // x ∈ mintL.toFinset} => mintT c x.1)
          ∗ (bigSep Finset.univ (readT (F := F) c)) ∗ bigSep Finset.univ (writT (F := F) c)) : sProp 𝕄)
      ⊢ bigSep Finset.univ (G' m) := by
  simp only [bigSep_sep']
  rw [deal (fun c (x : {x // x ∈ mintL.toFinset}) => mintT (F := F) c x.1) (fun x => mintP x.1), deal (writT (F := F)) (fun p => ring p.1),
    ← bigSep_univ_prod (fun x : Dev nD × Fin 19 => cInv m (cellAt x)), ← bigSep_univ_prod (fun x : Dev nD × Fin 19 => reached (ER (F := F)) (cellAt x) 0),
    ← bigSep_univ_prod (fun x : Dev nD × (Bool × Fin 8) => sInv (F := F) (x.1, x.2.1, x.2.2.val))]
  iintro ⟨#HI, #HR, #HS, Ht, Hat, Hm, Hrd, Hwr⟩
  iapply (bigSep_with_persistent (R := Ctx0 m) (Φ := fun c => lin (F := F) c) fun c _ => show _ ⊢ G' m c from .rfl)
  isplitr
  · unfold Ctx0
    isplitr; · iexact HI
    isplitr; · iexact HR
    rw [keysAll_eq, bigSep_map]; iexact HS
  · unfold lin
    simp only [bigSep_sep']
    isplitl [Ht]; · iexact Ht
    isplitl [Hat]; · iexact Hat
    isplitl [Hm]; · iexact Hm
    isplitl [Hrd]; · iexact Hrd
    iexact Hwr

/-- All devices' own semaphores and the barrier's, made into the cells of the rounds. -/
theorem glob : (bigSep Finset.univ fun c => iprop(Pipeline.ownSems0 (Ix := ℕ) (Name := ℕ) (U := UU) (Lvl := ℕ) (Val := Elt F) (τ := τ) ownSem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

def devP : Act → Dev nD ≃ Dev nD
  | (1, d, _) => ring d
  | (_, d, _) => (ring d).symm
theorem devP_eq (a : Act) (c : Dev nD) : devP a c = devA a c := by
  obtain ⟨_ | _ | _, d, e⟩ := a <;> rfl

omit [FloatOps F] in
theorem creds_of (l : List Act) (c : Dev nD) : (Pipeline.launchCred (fun d => TalkSites.tallyL (l.map (payOf d))) c : sProp 𝕄)
    ⊢ sumL l fun a => cred (tallyAt ((c : Thread nD τ), semA a) (ixA a) (amtA a)) := by
  induction l with
  | nil => exact Entails.of_eq (Pipeline.launchCred_zero c)
  | cons a l ih =>
    have h : (fun d => TalkSites.tallyL ((a :: l).map (payOf d)))
        = fun d => (tallyAt (((devP a d : Dev nD) : Thread nD τ), semA a) (ixA a) (amtA a) : CellTallies nD τ sig ℕ) + TalkSites.tallyL (l.map (payOf d)) := by
      funext d; rw [devP_eq]; rfl
    rw [h, Pipeline.launchCred_add]
    exact BIClass.sep_mono (Pipeline.launchCred_tallyAt (semA a) (devP a) (devP a).symm (devP a).apply_symm_apply (devP a).symm_apply_apply (ixA a) (amtA a) c) ih

/-! ## The start's tokens -/

def posL : List Tok :=
  ([0, 1, 2, 3].map fun e => Tok.rp true e) ++ ([0, 1, 2, 3].map fun e => Tok.sp true e) ++ [.cn true 0]
    ++ ([0, 1, 2, 3].map fun e => Tok.rp false e) ++ ([0, 1, 2, 3].map fun e => Tok.sp false e) ++ [.cn false 0]
def lastL : List Tok :=
  [.rp false 11, .rp false 6, .rp false 8, .rp false 9, .rp true 10, .rp true 7, .rp true 8, .rp true 9,
   .sp false 11, .sp false 6, .sp false 8, .sp false 9, .sp true 10, .sp true 7, .sp true 8, .sp true 9, .cd false, .cd true, .bd]
/-- The number of a token's cell. -/
def posC : Tok → Fin 19
  | .sp d e => Fin.ofNat 19 (sndS d e).val
  | .rp d e => Fin.ofNat 19 (rcvS d e).val
  | .cn d _ | .cd d => bif d then 16 else 17
  | _ => 18

def crL : List (Bool × ℕ) := [(true, 4), (true, 5), (true, 6), (false, 4), (false, 5), (false, 7)]
def ghostL : List Tok :=
  posL ++ [.bp] ++ [.bt true, .bt false] ++ sendL.map (fun x => .st x.1 x.2) ++ sendL.map (fun x => .rc x.1 x.2)
    ++ crL.map (fun x => .ct x.1 x.2) ++ crL.map (fun x => .wc x.1 x.2) ++ [.fa true 3, .fa false 3, .ssv, .asv 0, .asv 1]
/-- The tokens of the arrays, and of the kernel's own buffers. -/
def outL : List (Bool × ℕ) := ([0, 1, 2, 3, 4, 5, 6, 7, 8].map (true, ·)) ++ [2, 3, 4, 5, 6, 7, 9].map (false, ·)
def arrL : List Tok := [.inp true 0, .inp true 1, .inp false 0, .inp false 1] ++ outL.map fun x => .ob x.1 x.2
def bufL : List Tok := [.stg, .hst true 0, .hst true 1, .hst false 0, .hst false 1, .sl true, .sl false, .acc 0, .acc 1]

theorem start_perm : (ghostL ++ (arrL ++ bufL)).Perm startToks := by decide +kernel

theorem Ctx_of : iprop(levAts L lv ∗ Ctx0 m) ⊢ Ctx m := by unfold Ctx Ctx0; exact .rfl

/-- A token of a cell's first round, and its cell. -/
def posOk : Tok → Bool
  | .rp d e => decide (e / 4 = 0 ∧ osem (posC (.rp d e)) = .dma (rcvS d e))
  | .sp d e => decide (e / 4 = 0 ∧ osem (posC (.sp d e)) = .dma (sndS d e))
  | .cn d i => decide (i = 0 ∧ osem (posC (.cn d i)) = .reg (crS d))
  | _ => false

omit [FloatOps F] in
theorem sum_one {I : Type} (a : I) (Φ : I → sProp 𝕄) : sumL [a] Φ ⊢ Φ a := by
  show iprop(Φ a ∗ emp) ⊢ Φ a
  iintro ⟨H, -⟩; iexact H

/-- The positions: every own cell at its first round. -/
theorem pos_start (c : Dev nD) : iprop(Ctx0 m ∗ bigSep Finset.univ fun k : Fin 19 => atPos (ER (F := F)) (cellAt (c, k)) 0 ∅ 0)
    ⊢ iprop(toks m c posL ∗ atPos ER (barC c) 0 ∅ 0) := by
  have hu := sum_univ (F := F) (posL ++ [.bp]) posC (by decide +kernel) (by decide +kernel)
    fun k => iprop(atPos (ER (F := F)) (cellAt (c, k)) 0 ∅ 0 ∗ reached ER (cellAt (c, k)) 0)
  have h0 : ∀ t ∈ posL, posOk t = true := by decide +kernel
  have ht : ∀ t ∈ posL, iprop(atPos (ER (F := F)) (cellAt (c, posC t)) 0 ∅ 0 ∗ reached ER (cellAt (c, posC t)) 0) ⊢ Rt m c t := by
    intro t h
    have h1 := h0 t h
    rw [show cellAt (c, posC t) = ((c : Thread nD τ), osem (posC t)) from rfl]
    cases t <;> first | exact Bool.noConfusion h1 | obtain ⟨h1, h2⟩ := of_decide_eq_true h1
    · rw [h2]; simp only [Rt, h1]; exact .rfl
    · rw [h2]; simp only [Rt, h1]; exact .rfl
    · rw [h2, h1]; simp only [Rt]; unfold cnRes
      iintro ⟨H, -⟩
      iexists (∅ : Finset ℕ)
      isplitr; · ipureintro; exact ⟨Finset.empty_subset _, Nat.zero_le _⟩
      isplitl [H]; · iexact H
      rw [bigSep_empty]; iempintro
  iintro ⟨#HC, H⟩
  unfold Ctx0
  icases HC with ⟨-, #HR, -⟩
  ihave H := (show iprop((bigSep Finset.univ fun x => reached (ER (F := F)) (cellAt x) 0) ∗ bigSep Finset.univ fun k : Fin 19 => atPos (ER (F := F)) (cellAt (c, k)) 0 ∅ 0)
      ⊢ bigSep Finset.univ fun k : Fin 19 => iprop(atPos (ER (F := F)) (cellAt (c, k)) 0 ∅ 0 ∗ reached ER (cellAt (c, k)) 0) from
        bigSep_with_persistent fun k _ => by
          iintro ⟨#HR, H⟩
          isplitl; · iexact H
          iapply (bs_elim (i := ((c, k) : Dev nD × Fin 19)) (Φ := fun x => reached (ER (F := F)) (cellAt x) 0) (Finset.mem_univ _)); iexact HR) $$ [H]
  · isplitr; · iexact HR
    iexact H
  ihave H := (Entails.of_eq hu) $$ H
  ihave H := (sum_append _ _ _).2 $$ H
  icases H with ⟨H, Hb⟩
  ihave Hb := (sum_one _ _) $$ Hb
  icases Hb with ⟨Hb, -⟩
  isplitl [H]
  · rw [toks_sum]; iapply (sum_mono _ ht); iexact H
  · iexact Hb

def crF : Bool × ℕ → Bool × Fin 8 := fun x => (x.1, Fin.ofNat 8 x.2)
omit [FloatOps F] in
/-- Of all slots, those the schedule uses. -/
theorem slots_part (Φ : Bool × Fin 8 → sProp 𝕄) : bigSep Finset.univ Φ ⊢ sumL crL fun x => Φ (crF x) :=
  (bigSep_subset (Finset.subset_univ (crL.map crF).toFinset)).trans (Entails.of_eq ((sum_set (crL.map crF) (by decide +kernel) Φ).trans (sum_map _ _ _)))

/-- The duties, as their payers hold them. -/
theorem mint_start (c : Dev nD) : iprop((bigSep Finset.univ fun x : {x // x ∈ mintL.toFinset} => mintT (F := F) (mintP x.1 c) x.1)
      ∗ bigSep Finset.univ (readT (F := F) c))
    ⊢ iprop(toks m c [.bt true, .bt false] ∗ toks m c (sendL.map fun x => .st x.1 x.2) ∗ toks m c (crL.map fun x => .ct x.1 x.2)) := by
  have h1 := sum_perm (F := F) (show mintL.Perm ([.inl (0, true, 0), .inl (0, false, 0)] ++ (sendL.map (fun x => .inr x)
    ++ (sendL.map (fun x => .inl (1, x)) ++ crL.map fun x => .inl (2, x)))) by decide +kernel) fun x => mintT (F := F) (mintP x c) x
  rw [bs_sub mintL.toFinset (fun x => mintT (F := F) (mintP x c) x), sum_set _ (by decide +kernel), toks_sum, toks_sum, sum_map, toks_sum, sum_map]
  iintro ⟨H, Hr⟩
  ihave H := h1 $$ H
  ihave H := (sum_append _ _ _).2 $$ H
  icases H with ⟨Hb, H⟩
  ihave H := (sum_append _ _ _).2 $$ H
  icases H with ⟨Hs, H⟩
  ihave H := (sum_append _ _ _).2 $$ H
  icases H with ⟨Hr', Hc⟩
  ihave Hr := (slots_part (F := F) _ ) $$ Hr
  simp only [sum_map]
  isplitl [Hb]; · iexact Hb
  isplitl [Hs Hr']
  · iapply (sum_sep (F := F) sendL (fun x => mintT (F := F) (mintP (.inr x) c) (.inr x)) fun x => mintT (F := F) (mintP (.inl (1, x)) c) (.inl (1, x)))
    isplitl [Hs]; · iexact Hs
    iexact Hr'
  · iapply (sum_sep (F := F) crL (fun x => mintT (F := F) (mintP (.inl (2, x)) c) (.inl (2, x))) fun x => readT (F := F) c (crF x))
    isplitl [Hc]; · iexact Hc
    iexact Hr

theorem cr_rc (c : Dev nD) (x : Bool × ℕ) : cred (tallyAt ((c : Thread nD τ), semA (1, x)) (ixA (1, x)) (amtA (1, x))) = Rt m c (.rc x.1 x.2) := by
  obtain ⟨d, e⟩ := x; simp only [Rt, semA, ixA, amtA]
theorem cr_wc (c : Dev nD) (x : Bool × ℕ) : iprop(writT (F := F) (ring (crF x).1 c) (crF x) ∗ cred (tallyAt ((c : Thread nD τ), semA (2, x)) (ixA (2, x)) (amtA (2, x))))
    = iprop(Release.writeTok (ES (F := F)) ((tgt x.1 c, x.1, x.2 % 8) : Key) 1 ∗ cred (tallyAt (crC x.1 c) (cIx x.1 x.2) 1)) := by
  obtain ⟨d, e⟩ := x; simp only [semA, ixA, amtA]; rfl
omit [FloatOps F] in
theorem cr_bar (c : Dev nD) (d : Bool) : (cred (tallyAt ((c : Thread nD τ), semA (0, d, 0)) (ixA (0, d, 0)) (amtA (0, d, 0))) : sProp 𝕄) = cred (tallyAt (barC c) 1 1) := by
  simp only [semA, ixA, amtA]

/-- The launch's credit, cell by cell. -/
theorem cred_start (c : Dev nD) : iprop(Pipeline.launchCred (owed 0) c ∗ bigSep Finset.univ fun p => writT (F := F) (ring p.1 c) p)
    ⊢ iprop(cred (tallyAt (barC c) 1 2) ∗ toks m c (sendL.map fun x => .rc x.1 x.2) ∗ toks m c (crL.map fun x => .wc x.1 x.2)) := by
  have h1 := sum_perm (F := F) (show dueA.Perm ([(0, true, 0)] ++ ([(0, false, 0)] ++ (sendL.map (fun x => ((1, x) : Act)) ++ crL.map fun x => (2, x)))) by decide +kernel)
    fun a => cred (tallyAt ((c : Thread nD τ), semA a) (ixA a) (amtA a))
  rw [toks_sum, sum_map, toks_sum, sum_map]
  iintro ⟨H, Hw⟩
  ihave H := (show (Pipeline.launchCred (owed 0) c : sProp 𝕄) ⊢ _ from creds_of (F := F) dueA c) $$ H
  ihave H := h1 $$ H
  ihave H := (sum_append _ _ _).2 $$ H
  icases H with ⟨Hb1, H⟩
  ihave H := (sum_append _ _ _).2 $$ H
  icases H with ⟨Hb2, H⟩
  ihave Hb1 := (sum_one _ _) $$ Hb1
  ihave Hb2 := (sum_one _ _) $$ Hb2
  ihave H := (sum_append _ _ _).2 $$ H
  icases H with ⟨Hs, Hc⟩
  ihave Hw := (slots_part (F := F) _ ) $$ Hw
  simp only [sum_map]
  isplitl [Hb1 Hb2]
  · rw [show (tallyAt (barC c) 1 2 : CellTallies nD τ sig ℕ) = tallyAt (barC c) 1 1 + tallyAt (barC c) 1 1 from (tallyAt_add (barC c) 1 1 1).symm]
    iapply (cred_add _ _).2
    isplitl [Hb1]; · iapply (Entails.of_eq (cr_bar c true)); iexact Hb1
    iapply (Entails.of_eq (cr_bar c false)); iexact Hb2
  isplitl [Hs]
  · iapply (sum_mono (F := F) sendL fun x _ => Entails.of_eq (cr_rc m c x)); iexact Hs
  iapply (sum_mono (F := F) crL fun x hx => (Entails.of_eq (cr_wc (F := F) c x)).trans (Entails.of_eq (by rw [show x.2 % 8 = x.2 by revert x; decide]; simp only [Rt])))
  iapply (sum_sep (F := F) crL (fun x => writT (F := F) (ring (crF x).1 c) (crF x)) _)
  isplitl [Hw]; · iexact Hw
  iexact Hc

/-- All that a device holds at the start besides its buffers. -/
theorem ghost_start (c : Dev nD) : iprop(levAts L lv ∗ G' m c ∗ Pipeline.launchCred (owed 0) c) ⊢ iprop(Ctx m ∗ toks m c ghostL) := by
  unfold G' lin semsT
  iintro ⟨#HL, ⟨#HC, ⟨Hg, H0, H1⟩, Hat, Hm, Hrd, Hwr⟩, Hcr⟩
  ihave Hp := (pos_start m c) $$ [Hat]
  · isplitr; · iexact HC
    iexact Hat
  icases Hp with ⟨Hp, Hb⟩
  ihave Hm := (mint_start m c) $$ [Hm Hrd]
  · isplitl [Hm] <;> iassumption
  icases Hm with ⟨Hbt, Hst, Hct⟩
  ihave Hc := (cred_start m c) $$ [Hcr Hwr]
  · isplitl [Hcr] <;> iassumption
  icases Hc with ⟨Hbc, Hrc, Hwc⟩
  isplitr
  · iapply (Ctx_of m); isplitr; · iexact HL
    iexact HC
  unfold ghostL
  iapply (toks_append m c)
  isplitr [Hg H0 H1]
  · iapply (toks_append m c)
    isplitr [Hwc]
    · iapply (toks_append m c)
      isplitr [Hct]
      · iapply (toks_append m c)
        isplitr [Hrc]
        · iapply (toks_append m c)
          isplitr [Hst]
          · iapply (toks_append m c)
            isplitr [Hbt]
            · iapply (toks_append m c)
              isplitl [Hp]; · iexact Hp
              simp only [toks, Rt]
              isplitl; · isplitl [Hb] <;> iassumption
              iempintro
            · iexact Hbt
          · iexact Hst
        · iexact Hrc
      · iexact Hct
    · iexact Hwc
  · simp only [toks, Rt]
    isplitr
    · unfold facts; rw [show (WV true).filter (· ≤ 3) = ∅ by decide, bigSep_empty]; iempintro
    isplitr
    · unfold facts; rw [show (WV false).filter (· ≤ 3) = ∅ by decide, bigSep_empty]; iempintro
    isplitl [Hg]; · iexact Hg
    isplitl [H0]; · iexact H0
    isplitl [H1]; · iexact H1
    iempintro

end Cert.RingMM
-- ==== Proof.Buffers.lean ====
module

public import proofs.«01_k».proof.Proof.Start

@[expose] public section

noncomputable section

/-! The scratch buffers and the arrays, cut into the parts that the tokens name and put together again; the result's contents. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## A buffer and its parts -/

theorem slot_disjoint (t t' : Fin 4) (h : t ≠ t') : Disjoint (slotR t).set (slotR t').set :=
  Ring.lead_disjoint (s := S4x1024x1024) (0 : Fin 3) 1 (fun j : Fin 4 => (![j.val, 0, 0] : Fin 3 → ℕ)) S1x1024x1024.size
    (fun j => by revert j; decide) (fun j => (Nat.one_mul _).symm) rfl t t' h
theorem slot_cover : Finset.univ.biUnion (fun t => (slotR t).set) = Finset.univ :=
  Ring.lead_cover (s := S4x1024x1024) (0 : Fin 3) 1 (fun j : Fin 4 => (![j.val, 0, 0] : Fin 3 → ℕ)) S1x1024x1024.size
    (fun j => by revert j; decide) (fun j => (Nat.one_mul _).symm) (fun j a h => by revert j a h; decide) rfl (fun a h => by revert a h; decide) rfl
theorem acc_disjoint (t t' : Fin 2) (h : t ≠ t') : Disjoint (accR t).set (accR t').set :=
  Ring.lead_disjoint (s := S2x1024x2048) (0 : Fin 3) 1 (fun j : Fin 2 => (![j.val, 0, 0] : Fin 3 → ℕ)) S1x1024x2048.size
    (fun j => by revert j; decide) (fun j => (Nat.one_mul _).symm) rfl t t' h
theorem acc_cover : Finset.univ.biUnion (fun t => (accR t).set) = Finset.univ :=
  Ring.lead_cover (s := S2x1024x2048) (0 : Fin 3) 1 (fun j : Fin 2 => (![j.val, 0, 0] : Fin 3 → ℕ)) S1x1024x2048.size
    (fun j => by revert j; decide) (fun j => (Nat.one_mul _).symm) (fun j a h => by revert j a h; decide) rfl (fun a h => by revert a h; decide) rfl
theorem out_disjoint (t t' : Fin 16) (h : t ≠ t') : Disjoint (outR t).set (outR t').set :=
  Ring.lead_disjoint (s := S16384x2048) (0 : Fin 2) 1024 (fun j : Fin 16 => (![1024 * j.val, 0] : Fin 2 → ℕ)) S1024x2048.size
    (fun j => by revert j; decide) (fun _ => rfl) rfl t t' h
theorem out_cover : Finset.univ.biUnion (fun t => (outR t).set) = Finset.univ :=
  Ring.lead_cover (s := S16384x2048) (0 : Fin 2) 1024 (fun j : Fin 16 => (![1024 * j.val, 0] : Fin 2 → ℕ)) S1024x2048.size
    (fun j => by revert j; decide) (fun _ => rfl) (fun j a h => by revert j a h; decide) rfl (fun a h => by revert a h; decide) rfl

section
variable (c : Dev nD) {sp : Space} {sh : Shape} {e : EltTy} (mr : Memref sig .tc sp sh e)
  {T : Type} [Fintype T] [DecidableEq T] (r : T → Rect sh) (hr : ∀ t a, (r t).stride a = 1)
  (hd : ∀ t t', t ≠ t' → Disjoint (r t).set (r t').set) (hcov : (Finset.univ : Finset T).biUnion (fun t => (r t).set) = Finset.univ)

include hd hcov
omit [FloatOps F] in
theorem any_parts : anyT (F := F) c mr ⊢ bigSep Finset.univ fun t => anyT (F := F) c (mr.slice (r t) (hr t)) := by
  unfold anyT
  iintro ⟨%X, H⟩
  iapply (show ownsT c mr fullShare X ⊢ bigSep Finset.univ fun t => iprop(∃ Y, ownsT (F := F) c (mr.slice (r t) (hr t)) fullShare Y) from
    (owns_rects (c : Thread nD τ) mr fullShare r hr hd hcov X).trans (bigSep_mono fun t _ => exists_intro (Φ := fun Y => ownsT (F := F) c (mr.slice (r t) (hr t)) fullShare Y) (fun j => X ((r t).emb j))))
  iexact H

theorem any_join : (bigSep Finset.univ fun t => anyT (F := F) c (mr.slice (r t) (hr t))) ⊢ anyT (F := F) c mr := by
  unfold anyT
  refine (bigSep_exists_pi Finset.univ (fun t X => ownsT (F := F) c (mr.slice (r t) (hr t)) fullShare X)).trans ?_
  iintro ⟨%Xs, H⟩
  have hg (t : T) : (fun j => Rect.glue r hcov Xs ((r t).emb j)) = Xs t := funext fun y => Rect.glue_emb r hcov hd Xs t y
  iexists (Rect.glue r hcov Xs)
  iapply (owns_of_rects (c : Thread nD τ) mr fullShare r hr hd hcov (Rect.glue r hcov Xs))
  simp only [hg]
  iexact H
end

section
variable (c : Dev nD)

theorem any_sq (d : Bool) (j : Fin 4) : anyT (F := F) c (slotU d j) ⊢ anyT (F := F) c (slotM d j) := by
  unfold anyT
  iintro ⟨%X, H⟩
  iexists (shapeCast S1024x1024 X shapeCasts_S1x1024x1024_S1024x1024)
  iapply (sq_of c (slotU d j) S1024x1024 squeezes_S1x1024x1024_S1024x1024 up1 fullShare _)
  rw [shapeCast_shapeCast]
  iexact H
theorem any_unsq (d : Bool) (j : Fin 4) : anyT (F := F) c (slotM d j) ⊢ anyT (F := F) c (slotU d j) := by
  unfold anyT
  iintro ⟨%X, H⟩
  iexists (shapeCast S1x1024x1024 X up1)
  iapply (sq_to c (slotU d j) S1024x1024 squeezes_S1x1024x1024_S1024x1024 up1 fullShare X); iexact H

omit [FloatOps F] in
theorem any_whole (b : Ref sig .tc) : anyT (F := F) c (Memref.whole b) = iprop(∃ f : Buf (Elt F) ((c : Thread nD τ).loc b), ((c : Thread nD τ).loc b) ↦{fullShare} f) := by
  unfold anyT ownsT; simp only [owns_whole]

omit [FloatOps F] in
theorem slots_range (Φ : Fin 4 → sProp 𝕄) : (bigSep (Finset.range 4) fun e => Φ (sl e)) = bigSep Finset.univ Φ := by
  rw [show Finset.range 4 = (Finset.univ : Finset (Fin 4)).map Fin.valEmbedding by decide, bigSep_map]
  exact bigSep_congr fun j _ => congrArg Φ (Fin.ext (Nat.mod_eq_of_lt j.isLt))

theorem buf_start (d : Bool) : anyT (F := F) c (bufM d) ⊢ Rt m c (.sl d) := by
  simp only [Rt]
  rw [slots_range (fun j => anyT (F := F) c (slotM d j))]
  exact (any_parts c (bufM d) slotR (fun _ _ => rfl) slot_disjoint slot_cover).trans (bigSep_mono fun j _ => any_sq c d j)

omit [FloatOps F] in
theorem fin2' (Φ : Fin 2 → sProp 𝕄) : bigSep Finset.univ Φ ⊢ iprop(Φ 0 ∗ Φ 1) := by
  rw [bs_erase (Finset.mem_univ (0 : Fin 2)), show (Finset.univ : Finset (Fin 2)).erase 0 = {1} by decide, bs_one]

theorem Rt_stg : Rt m c .stg = anyT (F := F) c stM := by simp only [Rt]
theorem Rt_hst (d : Bool) (h : ℕ) : Rt m c (.hst d h) = anyT (F := F) c (roM d (hf h)) := by simp only [Rt]
theorem Rt_acc (k : ℕ) : Rt m c (.acc k) = anyT (F := F) c (accU (hf k)) := by simp only [Rt]
theorem Rt_inp (d : Bool) (h : ℕ) : Rt m c (.inp d h) = ownsT (F := F) c (inM d (hf h)) fullShare (inpV m d (hf h) c) := by simp only [Rt]

/-- The blocks of the result, each once. -/
theorem outL_ok : (outL.map fun x => rowB x.1 x.2 c).Nodup ∧ (outL.map fun x => rowB x.1 x.2 c).toFinset = Finset.univ := by revert c; decide +kernel

/-- The kernel's own buffers at the start, -/
theorem scr_start : (Pipeline.scopedRest cfg0.spec c : sProp 𝕄) ⊢ toks m c bufL := by
  rw [scopedRest0_eq]
  simp only [← any_whole (F := F) c, bufL, toks, Rt_stg, Rt_hst, Rt_acc]
  iintro ⟨H0, H1, H2, H3, H4, H5⟩
  ihave H1 := (any_parts c a16M rowR (fun _ _ => rfl) rowR_disjoint rowR_cover) $$ H1
  ihave H1 := (fin2' _) $$ H1
  icases H1 with ⟨H1, H1'⟩
  ihave H2 := (any_parts c b16M colR (fun _ _ => rfl) colR_disjoint colR_cover) $$ H2
  ihave H2 := (fin2' _) $$ H2
  icases H2 with ⟨H2, H2'⟩
  ihave H5 := (any_parts c cbufM accR (fun _ _ => rfl) acc_disjoint acc_cover) $$ H5
  ihave H5 := (fin2' _) $$ H5
  icases H5 with ⟨H5, H5'⟩
  isplitl [H0]; · iexact H0
  isplitl [H1]; · iexact H1
  isplitl [H1']; · iexact H1'
  isplitl [H2]; · iexact H2
  isplitl [H2']; · iexact H2'
  isplitl [H3]; · iapply (buf_start m c true); iexact H3
  isplitl [H4]; · iapply (buf_start m c false); iexact H4
  isplitl [H5]; · iexact H5
  isplitl [H5']; · iexact H5'
  iempintro

/-- and the arrays. -/
theorem arr_start : iprop((((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_v1) ↦{fullShare} m ((c : Thread nD τ).loc main_v1))) ⊢ toks m c arrL := by
  rw [← owns_whole (c : Thread nD τ) main_arg0, ← owns_whole (c : Thread nD τ) main_arg1, ← owns_whole (c : Thread nD τ) main_v1]
  iintro ⟨H1, H2, H3⟩
  ihave H1 := (owns_rects (c : Thread nD τ) aM fullShare rowR (fun _ _ => rfl) rowR_disjoint rowR_cover _) $$ H1
  ihave H1 := (fin2' _) $$ H1
  icases H1 with ⟨H1, H1'⟩
  ihave H2 := (owns_rects (c : Thread nD τ) bM fullShare colR (fun _ _ => rfl) colR_disjoint colR_cover _) $$ H2
  ihave H2 := (fin2' _) $$ H2
  icases H2 with ⟨H2, H2'⟩
  ihave H3 := (show owns (c : Thread nD τ) oM fullShare (m ((c : Thread nD τ).loc main_v1)) ⊢ anyT (F := F) c oM by
    unfold anyT; iintro H; iexists (m ((c : Thread nD τ).loc main_v1)); iexact H) $$ H3
  ihave H3 := (any_parts c oM outR (fun _ _ => rfl) out_disjoint out_cover) $$ H3
  ihave H3 := (Entails.of_eq (sum_univ outL (fun x => rowB x.1 x.2 c) (outL_ok c).1 (outL_ok c).2 _)) $$ H3
  unfold arrL
  iapply (toks_append m c)
  isplitr [H3]
  · simp only [toks, Rt_inp]
    isplitl [H1]; · iexact H1
    isplitl [H1']; · iexact H1'
    isplitl [H2]; · iexact H2
    isplitl [H2']; · iexact H2'
    iempintro
  · rw [toks_sum, sum_map]; iexact H3

/-! ## The end's buffers -/

/-- A block of the result: the product of its rows of A, which device b / 2 holds, and B. -/
def blkV (b : Fin 16) : S1024x2048.Idx → Elt F .f32 :=
  mm (k0_pay1 (inpV m true (hf b.val) ⟨b.val / 2, by show b.val / 2 < 8; omega⟩)) (bmV m c)
/-- The result. -/
def outV : S16384x2048.Idx → Elt F .f32 := Rect.glue outR out_cover (blkV m c)

theorem blk_eq (d : Bool) (κ : ℕ) : mm (Xs m d κ c) (bmV m c) = blkV m c (rowB d κ c) := by
  have h1 : hf (rowB d κ c).val = hf κ := Fin.ext (by show (2 * _ + κ % 2) % 2 = κ % 2; omega)
  have h2 : (⟨(rowB d κ c).val / 2, by show _ < 8; have := (rowB d κ c).isLt; omega⟩ : Dev nD) = back d (κ / 2) c :=
    Fin.ext (by show (2 * _ + κ % 2) / 2 = _; omega)
  unfold Xs blkV; rw [h1, h2]

def slE (d : Bool) : List ℕ := match d with | true => [5, 6, 7, 8] | false => [4, 6, 7, 9]
def bufE : List Tok :=
  [.stg, .hld true 0, .hld true 1, .bb, .acc 0, .acc 1] ++ ((slE true).map (.lp true) ++ ((slE true).map (.rr true)
    ++ ((slE false).map (.lp false) ++ (slE false).map (.rr false))))
def arrE : List Tok := [.inp true 0, .inp true 1, .inp false 0, .inp false 1] ++ outL.map fun x => .od x.1 x.2
def restE : List Tok := [.ssv, .asv 0, .asv 1, .fa false 7, .fa true 6]

theorem end_perm : endToks.Perm (lastL ++ (restE ++ (arrE ++ bufE))) := by decide +kernel

theorem toks_split (t l : List Tok) : toks m c (t ++ l) ⊢ iprop(toks m c t ∗ toks m c l) := by
  rw [toks_sum, toks_sum, toks_sum]; exact (sum_append _ _ _).2

/-- The lent and the kept half of a slot, rejoined. -/
theorem slot_back (d : Bool) (κ : ℕ) (h : 2 ≤ κ) : iprop(Rt m c (.lp d κ) ∗ Rt m c (.rr d κ)) ⊢ anyT (F := F) c (slotU d (sl (κ + 2))) := by
  have hs : srcM d κ = slotM d (sl (κ + 2)) := by unfold srcM; rw [if_neg (by omega)]
  have q1 : srcQ d κ = fullShare.left := by unfold srcQ; rw [if_neg (by omega)]
  have q3 : srcR κ = fullShare.right := by unfold srcR; rw [if_neg (by omega)]
  simp only [Rt, hs, q1, q3]
  refine BIBase.Entails.trans ?_ (any_unsq c d _)
  unfold anyT
  iintro ⟨H1, H2⟩
  iexists (Xs m d κ c)
  iapply (owns_halves _ _ _ _).2
  isplitl [H1] <;> iassumption

theorem buf_end (d : Bool) : iprop(toks m c ((slE d).map (.lp d)) ∗ toks m c ((slE d).map (.rr d))) ⊢ anyT (F := F) c (bufM d) := by
  rw [toks_sum, toks_sum, sum_map, sum_map]
  refine (sum_sep _ _ _).trans ((sum_mono (slE d) fun κ hκ => slot_back m c d κ (by revert κ; cases d <;> decide)).trans ?_)
  refine BIBase.Entails.trans ?_ (any_join c (bufM d) slotR (fun _ _ => rfl) slot_disjoint slot_cover)
  exact Entails.of_eq (sum_univ (slE d) (fun κ => sl (κ + 2)) (by cases d <;> decide) (by cases d <;> decide) fun j => anyT (F := F) c (slotU d j)).symm

theorem Rt_hld (h : ℕ) : Rt m c (.hld true h) ⊢ anyT (F := F) c (a16H (hf h)) := by
  simp only [Rt]; unfold anyT; exact exists_intro (Φ := fun X => ownsT (F := F) c (a16H (hf h)) fullShare X) _
theorem Rt_bb : Rt m c .bb ⊢ anyT (F := F) c b16M := by
  simp only [Rt]; unfold anyT; exact exists_intro (Φ := fun X => ownsT (F := F) c b16M fullShare X) _

/-- The kernel's own buffers at the end, -/
theorem scr_end : toks m c bufE ⊢ (Pipeline.scopedRest cfg0.spec c : sProp 𝕄) := by
  rw [scopedRest0_eq]
  simp only [← any_whole (F := F) c]
  unfold bufE
  iintro H
  ihave H := (toks_split m c _ _) $$ H
  icases H with ⟨H, Hs⟩
  ihave Hs := (toks_split m c _ _) $$ Hs
  icases Hs with ⟨Ht1, Hs⟩
  ihave Hs := (toks_split m c _ _) $$ Hs
  icases Hs with ⟨Ht2, Hs⟩
  ihave Hs := (toks_split m c _ _) $$ Hs
  icases Hs with ⟨Hf1, Hf2⟩
  simp only [toks, Rt_stg, Rt_acc]
  icases H with ⟨H0, H1, H1', H2, H5, H5', -⟩
  isplitl [H0]; · iexact H0
  isplitl [H1 H1']
  · iapply (any_join c a16M rowR (fun _ _ => rfl) rowR_disjoint rowR_cover)
    iapply (fin2 (F := F) _)
    isplitl [H1]; · iapply (Rt_hld m c 0); iexact H1
    iapply (Rt_hld m c 1); iexact H1'
  isplitl [H2]; · iapply (Rt_bb m c); iexact H2
  isplitl [Ht1 Ht2]
  · iapply (buf_end m c true)
    isplitl [Ht1]; · iexact Ht1
    iexact Ht2
  isplitl [Hf1 Hf2]
  · iapply (buf_end m c false)
    isplitl [Hf1]; · iexact Hf1
    iexact Hf2
  iapply (any_join c cbufM accR (fun _ _ => rfl) acc_disjoint acc_cover)
  iapply (fin2 (F := F) _)
  isplitl [H5]; · iexact H5
  iexact H5'

/-- all blocks of the result, -/
theorem out_end : toks m c (outL.map fun x => .od x.1 x.2)
    ⊢ bigSep Finset.univ fun b => ownsT (F := F) c (outM b) fullShare (fun j => outV m c ((outR b).emb j)) := by
  have hg (b : Fin 16) : (fun j => outV m c ((outR b).emb j)) = blkV m c b := funext fun y => Rect.glue_emb outR out_cover out_disjoint (blkV m c) b y
  rw [toks_sum, sum_map, sum_univ outL (fun x => rowB x.1 x.2 c) (outL_ok c).1 (outL_ok c).2]
  exact sum_mono outL fun x _ => Entails.of_eq (by simp only [Rt, blk_eq]; exact congrArg (ownsT c (outM (rowB x.1 x.2 c)) fullShare) (hg _).symm)

/-- and the arrays: A and B unchanged, the result whole. -/
theorem arr_end : toks m c arrE ⊢ (iprop((((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_v1) ↦{fullShare} outV m c)) : sProp 𝕄) := by
  rw [← owns_whole (c : Thread nD τ) main_arg0, ← owns_whole (c : Thread nD τ) main_arg1, ← owns_whole (c : Thread nD τ) main_v1]
  unfold arrE
  iintro H
  ihave H := (toks_split m c _ _) $$ H
  icases H with ⟨H, Ho⟩
  simp only [toks, Rt_inp]
  icases H with ⟨H1, H1', H2, H2', -⟩
  isplitl [H1 H1']
  · iapply (owns_of_rects (c : Thread nD τ) aM fullShare rowR (fun _ _ => rfl) rowR_disjoint rowR_cover (aVal m c))
    iapply (fin2 (F := F) _)
    isplitl [H1]; · iexact H1
    iexact H1'
  isplitl [H2 H2']
  · iapply (owns_of_rects (c : Thread nD τ) bM fullShare colR (fun _ _ => rfl) colR_disjoint colR_cover (bVal m c))
    iapply (fin2 (F := F) _)
    isplitl [H2]; · iexact H2
    iexact H2'
  iapply (owns_of_rects (c : Thread nD τ) oM fullShare outR (fun _ _ => rfl) out_disjoint out_cover (outV m c))
  iapply (out_end m c); iexact Ho

end

end Cert.RingMM
-- ==== Proof.Run.lean ====
module

public import proofs.«01_k».proof.Proof.Buffers
public import Idealize.ShloMosaic.Lib.Pipeline.CollectiveSegs

@[expose] public section

noncomputable section

/-! The end of the body, and the run of the whole program for any float values. -/

namespace Cert.RingMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

/-! ## The cells closed -/

/-- A token of a cell that has no further round, and its cell. -/
def lastOk : Tok → Bool
  | .rp d e => decide (osem (posC (.rp d e)) = .dma (rcvS d e) ∧ 1 ≤ e / 4 ∧ (e / 4 = 1 → 4 + e % 4 ∉ EV d))
  | .sp d e => decide (osem (posC (.sp d e)) = .dma (sndS d e) ∧ 1 ≤ e / 4 ∧ (e / 4 = 1 → 4 + e % 4 ∉ EV d))
  | .cd d => decide (osem (posC (.cd d)) = .reg (crS d))
  | .bd => true
  | _ => false

theorem no_more (d : Bool) (e r : ℕ) (h1 : 1 ≤ e / 4) (h2 : e / 4 = 1 → 4 + e % 4 ∉ EV d) (hr : e / 4 ≤ r) : 4 * r + e % 4 ∉ EV d := by
  intro h
  have h8 : 4 * r + e % 4 < 8 := (show ∀ x ∈ EV d, x < 8 by cases d <;> decide) _ h
  have hr1 : r = 1 := by omega
  subst hr1
  exact h2 (by omega) h

theorem close_at (g : GSem nD τ sig) (R : ℕ) (hR : ∀ r, R ≤ r → (Rd m).duties g r = ∅) : iprop(cInv m g ∗ atPos ER g R ∅ 0) ⊢ |={Set.univ}=> semVal g 0 := by
  unfold cInv
  iintro ⟨⟨%κ, HI⟩, H⟩
  iapply (Rounds.cell_close ER (Rd m) (κ := κ) (Set.mem_univ _) (fun h => h) hR)
  isplitl [HI] <;> iassumption

theorem close_tok (c : Dev nD) (t : Tok) (h : lastOk t = true) : iprop(Ctx m ∗ Rt m c t) ⊢ |={Set.univ}=> semVal (cellAt (c, posC t)) 0 := by
  iintro ⟨#HC, H⟩
  ihave HI := (Ctx_inv m (g := cellAt (c, posC t)) ⟨posC t, rfl⟩) $$ HC
  rw [show cellAt (c, posC t) = ((c : Thread nD τ), osem (posC t)) from rfl]
  cases t <;> first | exact Bool.noConfusion h | skip
  case rp d e =>
    obtain ⟨h1, h2, h3⟩ := of_decide_eq_true h
    rw [h1]; simp only [Rt]
    icases H with ⟨H, -⟩
    iapply (close_at m (rC d e c) (e / 4) fun r hr => by rw [duties_r, if_neg (no_more d e r h2 h3 hr)])
    isplitl [HI] <;> iassumption
  case sp d e =>
    obtain ⟨h1, h2, h3⟩ := of_decide_eq_true h
    rw [h1]; simp only [Rt]
    icases H with ⟨H, -⟩
    iapply (close_at m (sC d e c) (e / 4) fun r hr => by rw [duties_s, if_neg (no_more d e r h2 h3 hr)])
    isplitl [HI] <;> iassumption
  case cd d =>
    have h1 := of_decide_eq_true h
    rw [h1]; simp only [Rt]
    iapply (close_at m (crC d c) 1 fun r hr => duties_reg m c _ r hr)
    isplitl [HI] <;> iassumption
  case bd =>
    simp only [Rt]
    iapply (close_at m (barC c) 1 fun r hr => duties_reg m c _ r hr)
    isplitl [HI]; · iexact HI
    iexact H

theorem sum_persistent {I : Type} (l : List I) (P : sProp 𝕄) [BI.Persistent P] (Φ : I → sProp 𝕄) : iprop(P ∗ sumL l Φ) ⊢ sumL l fun i => iprop(P ∗ Φ i) := by
  induction l with
  | nil => show iprop(P ∗ emp) ⊢ emp; iintro ⟨-, -⟩; iempintro
  | cons a l ih =>
    show iprop(P ∗ Φ a ∗ sumL l Φ) ⊢ iprop((P ∗ Φ a) ∗ sumL l fun i => iprop(P ∗ Φ i))
    iintro ⟨#HP, Ha, Hl⟩
    isplitl [Ha]
    · isplitr; · iexact HP
      iexact Ha
    iapply ih; isplitr; · iexact HP
    iexact Hl

/-- Every cell, closed at its last position, at zero. -/
theorem close_all (c : Dev nD) : iprop(Ctx m ∗ toks m c lastL) ⊢ |={Set.univ}=> bigSep Finset.univ fun k : Fin 19 => semVal (cellAt (c, k)) 0 := by
  rw [toks_sum]
  refine (sum_persistent lastL (Ctx m) (Rt m c)).trans ((sum_mono lastL fun t ht => close_tok m c t ?_).trans ?_)
  · exact (show ∀ t ∈ lastL, lastOk t = true by decide +kernel) t ht
  · refine (Entails.of_eq (sum_univ lastL posC (by decide +kernel) (by decide +kernel) fun k => iprop(|={Set.univ}=> semVal (cellAt (c, k)) 0)).symm).trans ?_
    exact bigSep_fupd _ _

theorem rest_end (c : Dev nD) : toks m c restE ⊢ semsT (F := F) c := by
  simp only [restE, toks, Rt]
  unfold semsT
  iintro ⟨H1, H2, H3, -⟩
  isplitl [H1]; · iexact H1
  isplitl [H2]; · iexact H2
  iexact H3

/-! ## The kernel's region -/

def arrs (c : Dev nD) (o : Buf (Elt F) ((c : Thread nD τ).loc main_v1)) : sProp 𝕄 :=
  iprop((((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_v1) ↦{fullShare} o))

def start (c : Dev nD) : sProp 𝕄 := iprop(Ctx m ∗ toks m c ghostL ∗ toks m c arrL)
def Φ₀ (c : Dev nD) : sProp 𝕄 := iprop(Ctx m ∗ toks m c startToks)
def Φ₁ (c : Dev nD) : sProp 𝕄 :=
  iprop((unscopedSems0 c ∗ arrs m c (outV m c)) ∗ Pipeline.ownSems0 ownSem c ∗ Pipeline.scopedRest cfg0.spec c)

def dats (_ : Fin 1) (c : Dev nD) : Dat τ (Elt F) ℕ ℕ UU ℕ cfg0 c where
  A w := m ((cfg0.win w).arr.view.loc (c : Thread nD τ))
  after w _ := (w : Fin 0).elim0
  Φ t := match t with
    | ⟨0, _⟩ => Φ₀ m c
    | ⟨_ + 1, _⟩ => Φ₁ m c
  q _ := fullShare
  owed t := match t with
    | ⟨0, _⟩ => owed 0 c
    | ⟨_ + 1, _⟩ => 0

/-- The end of a device's run: its cells closed, its buffers and its arrays whole. -/
theorem finish (c : Dev nD) : St m c 22 endToks ⊢ |={Set.univ}=> iprop(Φ₁ m c ∗ Owe c 22) := by
  unfold St
  iintro ⟨#HC, HO, H⟩
  ihave H := (show toks m c endToks ⊢ toks m c (lastL ++ (restE ++ (arrE ++ bufE))) by rw [toks_sum, toks_sum]; exact sum_perm end_perm _) $$ H
  ihave H := (toks_split m c _ _) $$ H
  icases H with ⟨Hl, H⟩
  ihave H := (toks_split m c _ _) $$ H
  icases H with ⟨Hr, H⟩
  ihave H := (toks_split m c _ _) $$ H
  icases H with ⟨Ha, Hb⟩
  imod (close_all m c) $$ [Hl] with Hv
  · isplitr; · iexact HC
    iexact Hl
  imodintro
  ihave Hr := (rest_end m c) $$ Hr
  ihave Hs := (sems_eq (F := F) c).2 $$ [Hv Hr]
  · isplitl [Hv] <;> iassumption
  icases Hs with ⟨Hos, Hus⟩
  isplitr [HO]
  · unfold Φ₁ arrs
    isplitl [Hus Ha]
    · isplitl [Hus]; · iexact Hus
      iapply (arr_end m c); iexact Ha
    isplitl [Hos]; · iexact Hos
    iapply (scr_end m c); iexact Hb
  · iexact HO

theorem owes_in (c : Dev nD) : (dats m 0 c).owesAt 0 0 ⊢ (Owe c 0 : sProp 𝕄) := by
  unfold Dat.owesAt Pipeline.owesWithin Owe
  iintro ⟨%W, -, H⟩
  iexists W; iexact H
theorem owes_out (c : Dev nD) : (Owe c 22 : sProp 𝕄) ⊢ (dats m 0 c).owesAt 0 (Fin.last cfg0.N) := by
  unfold Dat.owesAt Pipeline.owesWithin Owe
  iintro ⟨%W, H⟩
  iexists W
  isplitr; · ipureintro; exact fun _ _ => Or.inl trivial
  iexact H

theorem bs_none (Φ : Fin cfg0.W → sProp 𝕄) : (emp : sProp 𝕄) ⊢ bigSep Finset.univ Φ :=
  Entails.of_eq (by rw [show (Finset.univ : Finset (Fin cfg0.W)) = ∅ from rfl, bigSep_empty]; rfl)

set_option maxRecDepth 65536 in
/-- The run of the body, as the region asks for it. -/
theorem body_obligation (c : Dev nD) : BodyObligation (dats m 0 c) (defs₀ (F := F)) 𝒱₀ 0 Set.univ := fun t => by
  rw [fin_N0 t]
  show iprop(Φ₀ m c ∗ (dats m 0 c).owesAt 0 0 ∗ bigSep (Finset.univ : Finset (Fin cfg0.W)) _) ⊢ WP c (theBody (F := F)) fun _ =>
    iprop(Φ₁ m c ∗ (dats m 0 c).owesAt 0 (Fin.last cfg0.N) ∗ bigSep (Finset.univ : Finset (Fin cfg0.W)) _)
  refine BIBase.Entails.trans ?_ (wp_fupd _ _ _ _ _)
  refine BIBase.Entails.trans ?_ (wp_mono _ _ _ (Q := fun _ => St m c 22 endToks) fun _ => ?_)
  · refine BIBase.Entails.trans ?_ (body_run m c)
    unfold Φ₀ St
    iintro ⟨⟨HC, H⟩, HO, -⟩
    isplitl [HC]; · iexact HC
    isplitl [HO]; · iapply (owes_in m c); iexact HO
    iexact H
  · refine (finish m c).trans (BI.fupd_mono ?_)
    iintro ⟨H, HO⟩
    isplitl [H]; · iexact H
    isplitl [HO]; · iapply (owes_out m c); iexact HO
    iapply (bs_none (F := F)); iempintro

/-! ## The launch -/

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' m c)
      ⊢ |={Set.univ}=> iprop(start m c ∗ emp) := by
  rw [Pipeline.unscopedRestP_none, unscopedRest0_eq]
  iintro ⟨Ha, Hlev, Hcr, -, HG⟩
  imodintro
  ihave H := (ghost_start m c) $$ [Hlev Hcr HG]
  · isplitl [Hlev]; · iexact Hlev
    isplitl [HG] <;> iassumption
  icases H with ⟨HC, H⟩
  unfold start
  isplitl
  · isplitl [HC]; · iexact HC
    isplitl [H]; · iexact H
    iapply (arr_start m c); iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold start Φ₀
  iintro ⟨⟨HC, Hg, Ha⟩, -, Hs⟩
  isplitl [HC]; · iexact HC
  iapply (show toks m c (ghostL ++ (arrL ++ bufL)) ⊢ toks m c startToks by rw [toks_sum, toks_sum]; exact sum_perm start_perm _)
  iapply (toks_append m c)
  isplitl [Hg]; · iexact Hg
  iapply (toks_append m c)
  isplitl [Ha]; · iexact Ha
  iapply (scr_start m c); iexact Hs

theorem waits (c : Dev nD) : (levAts L lv : sProp 𝕄) ⊢ Pipeline.cellsWaits cfgs (dats m) 0 0 c :=
  Pipeline.cellsWaits_intro cfgs (dats m) 0 0 c fun w s t => (w : Fin 0).elim0

theorem share_eq (c : Dev nD) (w : Fin cfg0.W) : (dats m 0 c).share w = fullShare := (w : Fin 0).elim0

/-- What the memory holds after the run: A and B as before, the result. -/
def Fin1 (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outV m c

theorem read_end (c : Dev nD) (s' : Phys nD τ sig (Elt F)) : iprop((unscopedSems0 c ∗ arrs m c (outV m c)) ∗ emp ∗ SI s')
    ⊢ (|={Set.univ}=> iprop(⌜Fin1 m c s'.mem ∧ ∀ sm : SemLoc sig, sm.isScoped .tc = false → s'.mem.sem ((c.tc : Thread nD τ), sm) = 0⌝ ∗ SI s') : sProp 𝕄) := by
  unfold arrs
  iintro ⟨⟨Hu, H0, H1, H2⟩, -, HSI⟩
  ihave %h0 := (SI_pointsTo_agree) $$ [H0 HSI]
  · isplitl [HSI] <;> iassumption
  ihave %h1 := (SI_pointsTo_agree) $$ [H1 HSI]
  · isplitl [HSI] <;> iassumption
  ihave %h2 := (SI_pointsTo_agree) $$ [H2 HSI]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro
    exact ⟨⟨funext fun i => h0 i (Finset.mem_univ _), funext fun i => h1 i (Finset.mem_univ _), funext fun i => h2 i (Finset.mem_univ _)⟩, h⟩
  iexact HSI

set_option maxRecDepth 8000 in
/-- From any memory, for any float values: every weakly fair execution of the program terminates, and then every device's
    A and B are unchanged, its result is the product block by block, and every semaphore counter is zero. -/
theorem run_main : θ_run defs (onTc (τ := τ) (main (F := F))) ⟨m, fun _ => 0, ρ⟩ (fun r => (∀ c, Fin1 m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => (w : Fin 0).elim0) (harr := arr_whole0) (hstage := stage_whole0) (hshare := share_eq m)
    (hdistinct := winFacts0.arr_inj)
    (O₀ := owed 0) (howed₀ := fun _ => rfl) (howedN := fun _ => rfl)
    (L := L) (lv := lv) (hL := L_of_ne) (hwaits := waits m)
    (G := G m) (G' := G' m) (u₀ := u₀)
    (hu₀ := by
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := fun c => iprop(unscopedSems0 c ∗ arrs m c (outV m c))) (Z := fun _ => iprop(emp))
    (hX := start_intro m ρ) (hin := phi0_intro m) (hout := fun _ => .rfl)
    (QY := fun c s => Fin1 m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.RingMM
-- ==== Proof.Value.lean ====
module

public import proofs.«01_k».proof.Proof.Run
public import Idealize.ShloMosaic.Lib.StackMember
public import Idealize.ShloMosaic.Lib.MatmulPlain
public import proofs.«01_k».proof.Proof.Gen.ReferenceIdeal.Run

@[expose] public section

noncomputable section

/-! The result over the extended reals. -/

namespace Cert.RingMM

open Cert.KernelIdeal Cert.KernelIdeal.Gen
open Idealize.ShloMosaic Idealize.ShloMosaic.TcCoe Idealize.ShloMosaic.ValueIdx
open scoped BigOperators

/-! ## The result over the extended reals: rounding to bf16 is the identity, and a product is the sum over the inner index -/

variable (m : (ℓ : Loc nD τ sig) → Buf (Elt Ideal) ℓ)

theorem round_apply (v : S1024x1024.Idx → Elt Ideal .f32) (i : S1024x1024.Idx) : k0_pay1 (F := Ideal) v i = v i := by
  unfold k0_pay1
  rw [shapeCast_self]
  rfl

theorem mm_apply (a : S1024x1024.Idx → Elt Ideal .bf16) (b : S1024x2048.Idx → Elt Ideal .bf16) (r : Fin 1024) (l : Fin 2048) :
    mm (F := Ideal) a b (ix2 r l) = ∑ k : Fin 1024, a (ix2 r k) * b (ix2 k l) := by
  refine (Ideal.matmul_plain_apply none a b (constant S1024x2048 .f32 0x00000000#32) r l).trans ?_
  show Ideal.ofBits .f32 0x00000000#32 + _ = _
  rw [Ideal.ofBits_zero_f32, zero_add]

/-- Where an element of a block of the result lies. -/
theorem outR_emb (b : Fin 16) (r : Fin 1024) (l : Fin 2048) :
    (outR b).emb (ix2 r l) = (ix2 (⟨1024 * b.val + r.val, by omega⟩ : Fin 16384) l : S16384x2048.Idx) := by
  funext a
  apply Fin.ext
  match a with
  | ⟨0, _⟩ => show 1024 * b.val + 1 * r.val = 1024 * b.val + r.val; omega
  | ⟨1, _⟩ => show 0 + 1 * l.val = l.val; omega

/-- The rows of A in a block, of the whole of A. -/
theorem inp_apply (A : (⟨2, ![16384, 1024]⟩ : Shape).Idx → Elt Ideal .f32)
    (hA : ∀ c : Dev nD, aVal m c = Layout.block ⟨2, ![2048, 1024]⟩ ⟨2, ![16384, 1024]⟩ 0 8 c A) (b : Fin 16) (r k : Fin 1024) (d : Dev nD)
    (hd : d.val = b.val / 2) : inpV m true (hf b.val) d (ix2 r k) = A (ix2 (⟨1024 * b.val + r.val, by omega⟩ : Fin 16384) k) := by
  show aVal m d ((rowR (hf b.val)).emb (ix2 r k)) = _
  rw [hA d, Layout.block_apply]
  congr 1
  funext a
  apply Fin.ext
  match a with
  | ⟨0, _⟩ =>
    show d.val * 2048 + (1024 * (b.val % 2) + 1 * r.val) = 1024 * b.val + r.val
    omega
  | ⟨1, _⟩ => show 0 + 1 * k.val = k.val; omega

/-- Every device's result is the product of the whole A and B. -/
theorem out_dot (A : (⟨2, ![16384, 1024]⟩ : Shape).Idx → Elt Ideal .f32) (B : S1024x2048.Idx → Elt Ideal .f32)
    (hA : ∀ c : Dev nD, aVal m c = Layout.block ⟨2, ![2048, 1024]⟩ ⟨2, ![16384, 1024]⟩ 0 8 c A) (hB : ∀ c : Dev nD, bVal m c = B) (c : Dev nD) :
    outV m c = Host.dotGeneral (F := Ideal) (φ₁ := .f32) (φ₂ := .f32) (DotDims.plain 16384 1024 2048) none A B := by
  funext j
  obtain ⟨b, -, hb⟩ := Finset.mem_biUnion.mp (out_cover ▸ Finset.mem_univ j)
  rw [← Rect.map_emb_univ] at hb
  obtain ⟨y, -, rfl⟩ := Finset.mem_map.mp hb
  rw [show outV m c ((outR b).emb y) = blkV m c b y from Rect.glue_emb outR out_cover out_disjoint (blkV m c) b y]
  obtain ⟨r, l, rfl⟩ : ∃ (r : Fin 1024) (l : Fin 2048), y = (ix2 r l : S1024x2048.Idx) := ⟨_, _, eq_ix2 y⟩
  rw [outR_emb]
  refine Eq.trans ?_ (StackMember.dotGeneral_plain_apply none A B _ l).symm
  unfold blkV
  rw [mm_apply]
  refine Finset.sum_congr rfl fun k _ => ?_
  rw [round_apply, inp_apply m A hA b r k _ rfl]
  congr 1
  show bVal m c (ix2 k l) = _
  rw [hB c]

end Cert.RingMM
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.StableHlo.Run
public import Idealize.ShloMosaic.Adequacy
public import Idealize.ShloMosaic.Init

@[expose] public section

noncomputable section

namespace Cert.Proof

open Idealize.ShloMosaic Idealize.SL.Sem

/-- The kernel at its machine values: the run at any float values, read there. -/
theorem kernel_frame : Cert.quiescent_Kernel := fun m ρ _ =>
  (θ_run Cert.KernelIdeal.defs _ _).mono (fun _ h => ⟨fun c => ⟨(h.1 c).1, (h.1 c).2.1⟩, h.2⟩) (Cert.RingMM.run_main (F := Bits) m ρ)

/-- The kernel at the extended reals. -/
theorem ideal_frame : Cert.quiescent_KernelIdeal := fun m ρ _ =>
  (θ_run Cert.KernelIdeal.defs _ _).mono (fun _ h => ⟨fun c => ⟨(h.1 c).1, (h.1 c).2.1⟩, h.2⟩) (Cert.RingMM.run_main (F := Ideal) m ρ)

/-- The reference is one host operation, and has no semaphore. -/
theorem reference_frame : Cert.quiescent_ReferenceIdeal := fun m ρ _ =>
  (θ_run Cert.ReferenceIdeal.defs _ _).mono (fun r h => ⟨fun c => ⟨(h c).2.1, (h c).2.2⟩, sem_eq_zero_of_no_sems rfl r.2⟩)
    (Cert.ReferenceIdeal.Value.run m ρ)

/-- Every device's result is the reference's. -/
theorem value : Cert.algebraic_KernelIdeal_ReferenceIdeal := fun m ρ m' ρ' _ hm =>
  ⟨_, (θ_run Cert.KernelIdeal.defs _ _).mono
      (fun _ h c => ⟨(h.1 c).2.2.trans (Cert.RingMM.out_dot m _ _ (fun c => (hm c).1) (fun c => (hm c).2) c), (h.1 c).1, (h.1 c).2.1⟩)
      (Cert.RingMM.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  kernel_frame, ideal_frame, reference_frame, trivial, value⟩

end Cert.Proof

end
